-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x256 : Shape := ⟨2, ![4096, 256]⟩
abbrev S1 : Shape := ⟨1, ![1]⟩
abbrev S4x512x4096 : Shape := ⟨3, ![4, 512, 4096]⟩
abbrev S4x2 : Shape := ⟨2, ![4, 2]⟩
abbrev S_ : Shape := ⟨0, ![]⟩
abbrev S256x4096 : Shape := ⟨2, ![256, 4096]⟩
abbrev S1x1 : Shape := ⟨2, ![1, 1]⟩
abbrev S1x256x4096 : Shape := ⟨3, ![1, 256, 4096]⟩
abbrev S512x256 : Shape := ⟨2, ![512, 256]⟩
abbrev S256x256 : Shape := ⟨2, ![256, 256]⟩

abbrev nBuf : Space → Nat
  | .hbm => 5
  | .vmem => 7
  | .smem => 2
  | _ => 0

abbrev bufTy : (tb : Table) → Fin (tcTables nBuf tb) → BufTy
  | .hbm, ⟨0, _⟩ => ⟨S512x4096, .fp8e5m2⟩
  | .hbm, ⟨1, _⟩ => ⟨S4096x256, .fp8e5m2⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S512x4096, .fp8e5m2⟩
  | .local _ .vmem, ⟨1, _⟩ => ⟨S4096x256, .fp8e5m2⟩
  | .local _ .vmem, ⟨2, _⟩ => ⟨S4096x256, .f32⟩
  | .local _ .vmem, ⟨3, _⟩ => ⟨S512x4096, .fp8e5m2⟩
  | .local _ .vmem, ⟨4, _⟩ => ⟨S4x512x4096, .fp8e5m2⟩
  | .local _ .vmem, ⟨5, _⟩ => ⟨S4x512x4096, .fp8e5m2⟩
  | .local _ .vmem, ⟨6, _⟩ => ⟨S4096x256, .fp8e5m2⟩
  | .local _ .smem, ⟨0, _⟩ => ⟨S1, .f32⟩
  | .local _ .smem, ⟨1, _⟩ => ⟨S1, .f32⟩
  | _, _ => ⟨S512x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_20 : BitVec 32 := 1#32
  let v21 : BitVec 32 := Scalar.muli v7 c1_i32_20
  let v22 : BitVec 32 := Scalar.addi c0_i32_21 v21
  v22.toNat
def k0_dev4 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_31 : BitVec 32 := 1#32
  let v30 : BitVec 32 := Scalar.muli v5 c1_i32_31
  let v31 : BitVec 32 := Scalar.addi c0_i32_32 v30
  v31.toNat
def k0_dev5 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_45 : BitVec 32 := 1#32
  let v44 : BitVec 32 := Scalar.muli v7 c1_i32_45
  let v45 : BitVec 32 := Scalar.addi c0_i32_46 v44
  v45.toNat
def k0_dev6 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_55 : BitVec 32 := 1#32
  let v53 : BitVec 32 := Scalar.muli v5 c1_i32_55
  let v54 : BitVec 32 := Scalar.addi c0_i32_56 v53
  v54.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v74 : BitVec 32 := Scalar.muli v2 c512_i32
  let c0_i32_69 : BitVec 32 := 0#32
  let v75 : BitVec 32 := Scalar.addi v74 c0_i32_69
  let v76 : Index := Scalar.indexCast v75
  let c0_70 : Index := 0#32
  ![v76.toNat, 0]
def k0_dev7 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_88 : BitVec 32 := 1#32
  let v85 : BitVec 32 := Scalar.muli v7 c1_i32_88
  let v86 : BitVec 32 := Scalar.addi c0_i32_89 v85
  v86.toNat
def k0_dev8 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_111 : BitVec 32 := 1#32
  let v102 : BitVec 32 := Scalar.muli v5 c1_i32_111
  let v103 : BitVec 32 := Scalar.addi c0_i32_112 v102
  v103.toNat
def k0_dev9 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_134 : BitVec 32 := 1#32
  let v119 : BitVec 32 := Scalar.muli v7 c1_i32_134
  let v120 : BitVec 32 := Scalar.addi c0_i32_135 v119
  v120.toNat
def k0_dev10 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_157 : BitVec 32 := 1#32
  let v136 : BitVec 32 := Scalar.muli v5 c1_i32_157
  let v137 : BitVec 32 := Scalar.addi c0_i32_158 v136
  v137.toNat
def k0_off2 (d0 : Dev nD) (c1_i32_163 : BitVec 32) (c0_i32_173 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v146 : BitVec 32 := Scalar.subi v2 c1_i32_163
  let c8_i32_164 : BitVec 32 := 8#32
  let v147 : BitVec 32 := Scalar.addi v146 c8_i32_164
  let c8_i32_165 : BitVec 32 := 8#32
  let v148 : BitVec 32 := Scalar.remsi v147 c8_i32_165
  let c512_i32_172 : BitVec 32 := 512#32
  let v157 : BitVec 32 := Scalar.muli v148 c512_i32_172
  let v158 : BitVec 32 := Scalar.addi v157 c0_i32_173
  let v159 : Index := Scalar.indexCast v158
  let c0_174 : Index := 0#32
  ![v159.toNat, 0]
def k0_off2_at (r : Fin 7) : BitVec 32 × BitVec 32 :=
  if r.val < 3 then
    if r.val < 1 then
      (1#32, 0#32)
    else
      if r.val < 2 then
        (1#32, 256#32)
      else
        (2#32, 0#32)
  else
    if r.val < 5 then
      if r.val < 4 then
        (2#32, 256#32)
      else
        (3#32, 0#32)
    else
      if r.val < 6 then
        (3#32, 256#32)
      else
        (4#32, 0#32)
def k0_off3 (d0 : Dev nD) (c1_i32_175 : BitVec 32) (c256_i32_184 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v161 : BitVec 32 := Scalar.addi v2 c1_i32_175
  let c8_i32_176 : BitVec 32 := 8#32
  let v162 : BitVec 32 := Scalar.remsi v161 c8_i32_176
  let c512_i32_183 : BitVec 32 := 512#32
  let v171 : BitVec 32 := Scalar.muli v162 c512_i32_183
  let v172 : BitVec 32 := Scalar.addi v171 c256_i32_184
  let v173 : Index := Scalar.indexCast v172
  let c0_185 : Index := 0#32
  ![v173.toNat, 0]
def k0_off3_at (r : Fin 7) : BitVec 32 × BitVec 32 :=
  if r.val < 3 then
    if r.val < 1 then
      (1#32, 256#32)
    else
      if r.val < 2 then
        (1#32, 0#32)
      else
        (2#32, 256#32)
  else
    if r.val < 5 then
      if r.val < 4 then
        (2#32, 0#32)
      else
        (3#32, 256#32)
    else
      if r.val < 6 then
        (3#32, 0#32)
      else
        (4#32, 256#32)
def k0_dev11 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_227 : BitVec 32 := 1#32
  let v212 : BitVec 32 := Scalar.muli v7 c1_i32_227
  let v213 : BitVec 32 := Scalar.addi c0_i32_228 v212
  v213.toNat
def k0_dev12 (d0 : Dev nD) : Nat :=
  let c0_i32_252 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_251 : BitVec 32 := 1#32
  let v230 : BitVec 32 := Scalar.muli v5 c1_i32_251
  let v231 : BitVec 32 := Scalar.addi c0_i32_252 v230
  v231.toNat
def k0_dev13 (d0 : Dev nD) : Nat :=
  let c0_i32_276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_275 : BitVec 32 := 1#32
  let v248 : BitVec 32 := Scalar.muli v7 c1_i32_275
  let v249 : BitVec 32 := Scalar.addi c0_i32_276 v248
  v249.toNat
def k0_dev14 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_299 : BitVec 32 := 1#32
  let v266 : BitVec 32 := Scalar.muli v5 c1_i32_299
  let v267 : BitVec 32 := Scalar.addi c0_i32_300 v266
  v267.toNat
def k0_dev15 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_367 : BitVec 32 := 1#32
  let v342 : BitVec 32 := Scalar.muli v7 c1_i32_367
  let v343 : BitVec 32 := Scalar.addi c0_i32_368 v342
  v343.toNat
def k0_dev16 (d0 : Dev nD) : Nat :=
  let c0_i32_392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_391 : BitVec 32 := 1#32
  let v360 : BitVec 32 := Scalar.muli v5 c1_i32_391
  let v361 : BitVec 32 := Scalar.addi c0_i32_392 v360
  v361.toNat
abbrev stage0_0 : Fin 1 → Memref sig .tc .vmem S512x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S1, .f32⟩
  | .local _ .vmem, ⟨3, _⟩ => ⟨S1, .f32⟩
  | .local _ .vmem, ⟨4, _⟩ => ⟨S4096x2048, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Cells.lean ====
/-
# The ring's transfers, memrefs and cells

A transfer of the kernel is named by a stream (0 travels right, 1 travels left), a level (how many hops its block has
already made) and a lane (which half of a device's 512 rows). This module gives the memrefs and semaphores of a transfer
as functions of that name, and the devices they run between.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic Idealize.ShloMosaic.TcCoe
open Idealize.SL Idealize.SL.Sem

variable {F : FTy → Type} [FloatOps F]

/-! ## Devices -/

/-- The device a transfer of stream `s` from device `c` lands on. -/
def dst (s : Fin 2) (c : Dev nD) : Dev nD := ⟨(c.val + (if s = 0 then 1 else 7)) % 8, Nat.mod_lt _ (by decide)⟩
/-- The device whose transfers of stream `s` land on device `c`. -/
def src (s : Fin 2) (c : Dev nD) : Dev nD := ⟨(c.val + (if s = 0 then 7 else 1)) % 8, Nat.mod_lt _ (by decide)⟩
/-- The device whose block lies in level `l` of stream `s` on device `c`. -/
def org (s : Fin 2) (l : Fin 4) (c : Dev nD) : Dev nD :=
  ⟨(c.val + (if s = 0 then 7 - l.val else l.val + 1)) % 8, Nat.mod_lt _ (by decide)⟩

theorem src_dst : ∀ (s : Fin 2) (c : Dev nD), src s (dst s c) = c := by decide
theorem dst_src : ∀ (s : Fin 2) (c : Dev nD), dst s (src s c) = c := by decide
theorem org_zero_dst : ∀ (s : Fin 2) (c : Dev nD), org s 0 (dst s c) = c := by decide
theorem org_succ_dst : ∀ (s : Fin 2) (l : Fin 3) (c : Dev nD), org s l.succ (dst s c) = org s l.castSucc c := by decide

/-- One hop of stream `s` is a permutation of the devices. -/
def hop (s : Fin 2) : Dev nD ≃ Dev nD := ⟨dst s, src s, src_dst s, dst_src s⟩

/-- The device word a transfer of stream `s` is addressed with, as the program computes it. -/
def devOf (s : Fin 2) (c : Dev nD) : Dev nD := match s with
  | 0 => ⟨k0_dev3 c, k0_dev3_lt c⟩
  | 1 => ⟨k0_dev4 c, k0_dev4_lt c⟩
theorem devOf_eq (s : Fin 2) (c : Dev nD) : devOf s c = dst s c := by
  fin_cases s
  · exact Fin.ext (k0_dev3_eq c)
  · exact Fin.ext (k0_dev4_eq c)
theorem dev1_eq (c : Dev nD) : (⟨k0_dev1 c, k0_dev1_lt c⟩ : Dev nD) = src 0 c := Fin.ext (k0_dev1_eq c)
theorem dev2_eq (c : Dev nD) : (⟨k0_dev2 c, k0_dev2_lt c⟩ : Dev nD) = src 1 c := Fin.ext (k0_dev2_eq c)

/-! ## Memrefs -/

abbrev xM : Memref sig .tc .vmem S512x4096 .fp8e5m2 := Memref.whole cc0_stg0_0
abbrev wM : Memref sig .tc .vmem S4096x256 .fp8e5m2 := Memref.whole cc0_stg1_0
abbrev sxM : Memref sig .tc .smem S1 .f32 := Memref.whole cc0_stg2_0
abbrev swM : Memref sig .tc .smem S1 .f32 := Memref.whole cc0_stg3_0
abbrev oM : Memref sig .tc .vmem S4096x256 .f32 := Memref.whole cc0_stg4_0
/-- The device's own rows of `x`, copied; the copy of its columns of `w`. -/
abbrev ownWM : Memref sig .tc .vmem S512x4096 .fp8e5m2 := Memref.whole cc0_scratch0
abbrev w8M : Memref sig .tc .vmem S4096x256 .fp8e5m2 := Memref.whole cc0_scratch3

/-- The landing buffer of stream `s`. -/
abbrev stRef : Fin 2 → Ref sig .tc | 0 => cc0_scratch1 | 1 => cc0_scratch2
abbrev stM : Fin 2 → Memref sig .tc .vmem S4x512x4096 .fp8e5m2
  | 0 => Memref.whole cc0_scratch1
  | 1 => Memref.whole cc0_scratch2

theorem inb_half (n : Fin 2) : ∀ a, (![256 * n.val, 0] : Fin 2 → Nat) a + S256x4096.size a ≤ S512x4096.size a := by
  revert n; decide
theorem inb_slot (l : Fin 4) (n : Fin 2) : ∀ a, (![l.val, 256 * n.val, 0] : Fin 3 → Nat) a + S1x256x4096.size a ≤ S4x512x4096.size a := by
  revert l n; decide

/-- Lane `n` of a device's 512 rows; -/
abbrev halfR (n : Fin 2) : Rect S512x4096 := Rect.unit (s := S512x4096) ![256 * n.val, 0] S256x4096.size (inb_half n)
/-- level `l`, lane `n` of a landing buffer. -/
abbrev slotR (l : Fin 4) (n : Fin 2) : Rect S4x512x4096 := Rect.unit (s := S4x512x4096) ![l.val, 256 * n.val, 0] S1x256x4096.size (inb_slot l n)

/-- Lane `n` of the copied rows as a memref; -/
abbrev ownM (n : Fin 2) : Memref sig .tc .vmem S256x4096 .fp8e5m2 := ownWM.slice (halfR n) (fun _ => rfl)
/-- slot `(l, n)` of stream `s`'s landing buffer as a memref. -/
abbrev slotM (s : Fin 2) (l : Fin 4) (n : Fin 2) : Memref sig .tc .vmem S256x4096 .fp8e5m2 :=
  ((stM s).slice (slotR l n) (fun _ => rfl)).squeeze S256x4096 squeezes_S1x256x4096_S256x4096

/-- What a transfer of stream `s`, level `l`, lane `n` reads: the copied rows at level 0, the slot the level before
    landed in at the others. -/
def srcM (s : Fin 2) (l : Fin 4) (n : Fin 2) : Memref sig .tc .vmem S256x4096 .fp8e5m2 := match l with
  | ⟨0, _⟩ => ownM n
  | ⟨l + 1, h⟩ => slotM s ⟨l, by omega⟩ n

theorem stM_isWhole (s : Fin 2) : (stM s).IsWhole := by fin_cases s <;> exact Memref.isWhole_whole _

theorem own_we (n : Fin 2) : (ownM n).view.WordExact := by
  fin_cases n
  · exact (Memref.isWhole_whole cc0_scratch0).wordExact_slice rfl _ wordsfp8e5m2_S512x4096_S256x4096_0_0
  · exact (Memref.isWhole_whole cc0_scratch0).wordExact_slice rfl _ wordsfp8e5m2_S512x4096_S256x4096_256_0
theorem slotR_words (l : Fin 4) (n : Fin 2) : (slotR l n).WholeWords (EltTy.packing .fp8e5m2) := by
  fin_cases l <;> fin_cases n
  · exact wordsfp8e5m2_S4x512x4096_S1x256x4096_0_0_0
  · exact wordsfp8e5m2_S4x512x4096_S1x256x4096_0_256_0
  · exact wordsfp8e5m2_S4x512x4096_S1x256x4096_1_0_0
  · exact wordsfp8e5m2_S4x512x4096_S1x256x4096_1_256_0
  · exact wordsfp8e5m2_S4x512x4096_S1x256x4096_2_0_0
  · exact wordsfp8e5m2_S4x512x4096_S1x256x4096_2_256_0
  · exact wordsfp8e5m2_S4x512x4096_S1x256x4096_3_0_0
  · exact wordsfp8e5m2_S4x512x4096_S1x256x4096_3_256_0
theorem slot_we (s : Fin 2) (l : Fin 4) (n : Fin 2) : (slotM s l n).view.WordExact :=
  ((stM_isWhole s).wordExact_slice (by fin_cases s <;> rfl) _ (slotR_words l n)).reshape _ _
theorem src_we (s : Fin 2) (l : Fin 4) (n : Fin 2) : (srcM s l n).view.WordExact := match l with
  | ⟨0, _⟩ => own_we n
  | ⟨l + 1, h⟩ => slot_we s ⟨l, by omega⟩ n
theorem slot_hsc (s : Fin 2) (l : Fin 4) (n : Fin 2) : (slotM s l n).view.ref.isScScratch = false := by fin_cases s <;> rfl

/-! ## Semaphores -/

/-- The runtime's barrier semaphore. -/
abbrev barS : Sem sig := (SemArray.scalar (sig.barrier 0 rfl) : Sems sig S_).sem
/-- The semaphore a transfer completes on where it is sent from, -/
def sendQ (s : Fin 2) (l : Fin 4) (n : Fin 2) : DmaSem sig := ⟨5 + 16 * s.val + 2 * l.val + n.val, by show _ < 37; omega⟩
/-- and the one it completes on where it lands. -/
def recvQ (s : Fin 2) (l : Fin 4) (n : Fin 2) : DmaSem sig := ⟨13 + 16 * s.val + 2 * l.val + n.val, by show _ < 37; omega⟩

/-! ## The output rows of a received block -/

/-- The offset the product of slot `(s, l, n)` is stored at, as the program computes it. -/
def offs (s : Fin 2) (l : Fin 4) (n : Fin 2) (c : Dev nD) : Fin 2 → Nat := match s with
  | 0 => k0_off2 c (BitVec.ofNat 32 (l.val + 1)) (BitVec.ofNat 32 (256 * n.val))
  | 1 => k0_off3 c (BitVec.ofNat 32 (l.val + 1)) (BitVec.ofNat 32 (256 * n.val))
theorem offs_eq : ∀ (s : Fin 2) (l : Fin 4) (n : Fin 2) (c : Dev nD), offs s l n c = ![512 * (org s l c).val + 256 * n.val, 0] := by
  decide +kernel
theorem offs_inb (s : Fin 2) (l : Fin 4) (n : Fin 2) (c : Dev nD) : ∀ a, offs s l n c a + S256x256.size a ≤ S4096x256.size a := by
  rw [offs_eq]
  have h1 := (org s l c).isLt
  have h2 := n.isLt
  intro a
  fin_cases a
  · show 512 * (org s l c).val + 256 * n.val + 256 ≤ 4096
    have : (org s l c).val < 8 := h1
    omega
  · show 0 + 256 ≤ 256
    omega

/-- The rows of the output a received block's product is stored at; -/
abbrev outR (s : Fin 2) (l : Fin 4) (n : Fin 2) (c : Dev nD) : Rect S4096x256 :=
  Rect.unit (s := S4096x256) (offs s l n c) S256x256.size (offs_inb s l n c)
/-- those the product of the device's own rows is stored at. -/
abbrev outOwnR (c : Dev nD) : Rect S4096x256 := Rect.unit (s := S4096x256) (k0_off1 c) S512x256.size (k0_off1_inb c)

end Cert.RingProof

end
-- ==== Proof.Program.lean ====
/-
# The kernel's body as a list of ring steps

The printed body is one long sequence of memory operations. This module writes the same sequence as a list of four kinds
of step (send a transfer, wait for its arrival, multiply a received block, wait for a transfer's departure) around the
barrier handshake and the three local copies and products, and proves that the two programs are the same.
-/
module

public import proofs.«01_k».proof.Proof.Cells

@[expose] public section

noncomputable section

namespace Cert.RingProof

open Cert.KernelIdeal Cert.KernelIdeal.Gen
open Idealize.ShloMosaic Idealize.ShloMosaic.TcCoe
open Idealize.SL Idealize.SL.Sem

variable {F : FTy → Type} [FloatOps F]

/-- A step of the ring on the transfer named by a stream, a level and a lane. -/
inductive Op where
  | send (s : Fin 2) (l : Fin 4) (n : Fin 2)
  | recv (s : Fin 2) (l : Fin 4) (n : Fin 2)
  | gemm (s : Fin 2) (l : Fin 4) (n : Fin 2)
  | wait (s : Fin 2) (l : Fin 4) (n : Fin 2)
  deriving DecidableEq

variable (F) in
/-- The kernel's programs that return nothing. -/
abbrev P := Prog (TpuEff nD τ sig (Elt F) Λ₀ .tc) PUnit

/-- The whole of the copied `w`, of the copied rows. -/
abbrev wR : Rect S4096x256 := Rect.unit (s := S4096x256) ![0, 0] S4096x256.size inb_S4096x256_S4096x256_0_0
abbrev xR : Rect S512x4096 := Rect.unit (s := S512x4096) ![0, 0] S512x4096.size inb_S512x4096_S512x4096_0_0

/-- Start the transfer. -/
def sendP (s : Fin 2) (l : Fin 4) (n : Fin 2) (c : Dev nD) (k : PUnit.{1} → P F) : P F :=
  .op (.enqueueDma (srcM s l n) (.remote (Dev.tc (devOf s c)) (slotM s l n) (.dma (sendQ s l n)) (slot_hsc s l n)) (.dma (recvQ s l n))
    (src_we s l n) (slot_we s l n) ⟨⟨rfl, Or.inl rfl⟩, trivial⟩) k
/-- Wait for the transfer of the same name from the device before. -/
def recvP (s : Fin 2) (l : Fin 4) (n : Fin 2) (k : PUnit.{1} → P F) : P F :=
  .op (.waitDma2 (recvQ s l n) (srcM s l n) (slotM s l n) (src_we s l n) (slot_we s l n)) k
/-- Wait until the own transfer has been read. -/
def waitP (s : Fin 2) (l : Fin 4) (n : Fin 2) (k : PUnit.{1} → P F) : P F :=
  .op (.waitDma2 (sendQ s l n) (slotM s l n) (srcM s l n) (slot_we s l n) (src_we s l n)) k
/-- Multiply the received block by the copied `w` and store the product at its rows. -/
def gemmP (s : Fin 2) (l : Fin 4) (n : Fin 2) (c : Dev nD) (v15 : F .f32) (k : PUnit.{1} → P F) : P F :=
  .op (.load (stM s) (slotR l n).toLoadRect (View.loadsAt_vmem h_S1x256x4096)) fun v =>
  .op (.load w8M wR.toLoadRect (View.loadsAt_vmem h_S4096x256)) fun w =>
  .op (.load oM (outR s l n c).toLoadRect (View.loadsAt_vmem h_S256x256)) fun _ =>
  .op (.store oM (outR s l n c) (k0_pay6 v15 v w) Finset.univ (View.stores_vmem_bits_univ h_S256x256 rfl) (.inl rfl)) k

def opP (c : Dev nD) (v15 : F .f32) (k : PUnit.{1} → P F) : Op → P F
  | .send s l n => sendP s l n c k
  | .recv s l n => recvP s l n k
  | .gemm s l n => gemmP s l n c v15 k
  | .wait s l n => waitP s l n k

/-- The steps of a list, one after another, then the rest. -/
def run (c : Dev nD) (v15 : F .f32) (k : PUnit.{1} → P F) : List Op → P F
  | [] => k ⟨⟩
  | o :: os => opP c v15 (fun _ => run c v15 k os) o

/-- Lane `n` of the device's rows copied. -/
theorem half_packed (n : Fin 2) : (halfR n).PackedRows (EltTy.packing .fp8e5m2) := by
  fin_cases n
  · exact packedfp8e5m2_S512x4096_S256x4096_0_0
  · exact packedfp8e5m2_S512x4096_S256x4096_256_0
def copyXP (n : Fin 2) (k : PUnit.{1} → P F) : P F :=
  .op (.load xM (halfR n).toLoadRect (View.loadsAt_vmem h_S256x4096)) fun v =>
  .op (.load ownWM (halfR n).toLoadRect (View.loadsAt_vmem h_S256x4096)) fun _ =>
  .op (.store ownWM (halfR n) (k0_pay2 v) Finset.univ
    (View.stores_vmem h_S256x4096 ((Memref.isWhole_whole cc0_scratch0).storeExact_slice rfl _ (half_packed n)) (fun _ => rfl)) (.inl rfl)) k
/-- The columns of `w` copied. -/
def copyWP (k : PUnit.{1} → P F) : P F :=
  .op (.load wM wR.toLoadRect (View.loadsAt_vmem h_S4096x256)) fun v =>
  .op (.load w8M wR.toLoadRect (View.loadsAt_vmem h_S4096x256)) fun _ =>
  .op (.store w8M wR (k0_pay4 v) Finset.univ
    (View.stores_vmem h_S4096x256 ((Memref.isWhole_whole cc0_scratch3).storeExact_slice rfl _ packedfp8e5m2_S4096x256_S4096x256_0_0) (fun _ => rfl)) (.inl rfl)) k
/-- The product of the device's own rows. -/
def ownP (c : Dev nD) (v15 : F .f32) (k : PUnit.{1} → P F) : P F :=
  .op (.load ownWM xR.toLoadRect (View.loadsAt_vmem h_S512x4096)) fun v =>
  .op (.load w8M wR.toLoadRect (View.loadsAt_vmem h_S4096x256)) fun w =>
  .op (.load oM (outOwnR c).toLoadRect (View.loadsAt_vmem h_S512x256)) fun _ =>
  .op (.store oM (outOwnR c) (k0_pay5 v15 v w) Finset.univ (View.stores_vmem_bits_univ h_S512x256 rfl) (.inl rfl)) k

/-- The ring steps before the second lane's copy, between it and the copy of `w`, and after the own product. -/
def ops₁ : List Op := [.send 0 0 0, .send 1 0 0]
def ops₂ : List Op := [.send 0 0 1, .send 1 0 1]
def ops₃ : List Op := [
  .recv 0 0 0, .send 0 1 0, .recv 1 0 1, .send 1 1 1, .recv 0 0 1, .send 0 1 1, .recv 1 0 0, .send 1 1 0,
  .gemm 0 0 0, .gemm 1 0 1, .gemm 0 0 1, .gemm 1 0 0,
  .recv 0 1 0, .send 0 2 0, .recv 1 1 1, .send 1 2 1, .recv 0 1 1, .send 0 2 1, .recv 1 1 0, .send 1 2 0,
  .gemm 0 1 0, .gemm 1 1 1, .gemm 0 1 1, .gemm 1 1 0,
  .recv 0 2 0, .send 0 3 0, .recv 1 2 1, .send 1 3 1, .recv 0 2 1, .recv 1 2 0,
  .gemm 0 2 0, .gemm 1 2 1, .gemm 0 2 1, .gemm 1 2 0,
  .recv 0 3 0, .recv 1 3 1, .gemm 0 3 0, .gemm 1 3 1,
  .wait 0 0 0, .wait 1 0 0, .wait 0 0 1, .wait 1 0 1, .wait 0 1 0, .wait 1 1 1, .wait 0 1 1, .wait 1 1 0,
  .wait 0 2 0, .wait 1 2 1, .wait 0 2 1, .wait 1 2 0, .wait 0 3 0, .wait 1 3 1]

/-- The body, after the handshake and the two scales. -/
def mainP (c : Dev nD) (v15 : F .f32) : P F :=
  copyXP 0 fun _ => run c v15 (fun _ => copyXP 1 fun _ => run c v15 (fun _ => copyWP fun _ => ownP c v15 fun _ => run c v15 .ret ops₃) ops₂) ops₁

/-- The word of a scale. -/
abbrev sR : Rect S1 := Rect.unit (s := S1) ![0] S1.size inb_S1_S1_0

/-- The whole body. -/
def bodyP : P F :=
  .op .deviceId fun c =>
  .op (.semSignal (⟨k0_dev1 c, k0_dev1_lt c⟩, .tc) barS (1#32).toInt) fun _ =>
  .op (.semSignal (⟨k0_dev2 c, k0_dev2_lt c⟩, .tc) barS (1#32).toInt) fun _ =>
  .op (.semWait barS (2#32).toInt) fun _ =>
  smemLoadElt sxM sR (View.loads_smem_one rfl numel1_S1) (Shape.Idx.first (numel1_S1.symm ▸ Nat.one_pos)) fun v13 =>
  smemLoadElt swM sR (View.loads_smem_one rfl numel1_S1) (Shape.Idx.first (numel1_S1.symm ▸ Nat.one_pos)) fun v14 =>
  mainP c (k0_pay1 v13 v14)

set_option maxRecDepth 65536 in
set_option maxHeartbeats 4000000 in
/-- The printed body is that program. -/
theorem body_eq : (cc0_body xM (Memref.isWhole_whole _) wM (Memref.isWhole_whole _) sxM (Memref.isWhole_whole _) swM (Memref.isWhole_whole _)
    oM (Memref.isWhole_whole _) ownWM (Memref.isWhole_whole _) (stM 0) (Memref.isWhole_whole _) (stM 1) (Memref.isWhole_whole _)
    w8M (Memref.isWhole_whole _) cc0_scratch4 cc0_scratch5 cc0_scratch6 cc0_scratch7 : P F) = bodyP := by
  chain_rfl

end Cert.RingProof

end
-- ==== Proof.Schedule.lean ====
/-
# The ring's schedule: what each semaphore cell carries

Every cell of the ring has at most one round. A device's barrier cell has two duties, one per stream: the device the
stream travels to hands over its landing slots of that stream. The send cell of a transfer hands the sender its source
share back, the receive cell hands the receiver its slot with the rows that landed in it. This module states that
schedule, the debts a device starts with, and the levels that order the waits.
-/
module

public import proofs.«01_k».proof.Proof.Program

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the ring's (duties named by a stream) -/

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Transfers and cells -/

/-- A transfer: its stream, level and lane. -/
abbrev T : Type := Fin 2 × Fin 4 × Fin 2
/-- The transfers that happen: at the last level each stream carries one lane only. -/
def act (t : T) : Bool := decide (t.2.1 ≠ 3 ∨ t.1 = t.2.2)

/-- The ring's semaphores: the send (0) and receive (1) one of each transfer. -/
def dmaQ (d : Fin 2 × T) : DmaSem sig := match d.1 with
  | 0 => sendQ d.2.1 d.2.2.1 d.2.2.2
  | 1 => recvQ d.2.1 d.2.2.1 d.2.2.2

/-- Which transfer's semaphore a DMA semaphore is. -/
def dec (q : DmaSem sig) : Option (Fin 2 × T) :=
  if 5 ≤ q.val then
    some (⟨(q.val - 5) / 8 % 2, Nat.mod_lt _ (by decide)⟩, ⟨(q.val - 5) / 16 % 2, Nat.mod_lt _ (by decide)⟩,
      ⟨(q.val - 5) / 2 % 4, Nat.mod_lt _ (by decide)⟩, ⟨(q.val - 5) % 2, Nat.mod_lt _ (by decide)⟩)
  else none
theorem dec_dmaQ : ∀ d, dec (dmaQ d) = some d := by decide
theorem dmaQ_injective : Function.Injective dmaQ := fun a b h => Option.some.inj ((dec_dmaQ a).symm.trans ((congrArg dec h).trans (dec_dmaQ b)))

abbrev barCell (c : Dev nD) : GSem nD τ sig := ((c : Thread nD τ), .reg barS)
abbrev dmaCell (c : Dev nD) (d : Fin 2 × T) : GSem nD τ sig := ((c : Thread nD τ), .dma (dmaQ d))

/-- The credit of one transfer. -/
abbrev N : ℕ := (ownM 0 : Memref sig .tc .vmem S256x4096 .fp8e5m2).view.dmaCredit
theorem N_pos : 0 < N := View.dmaCredit_pos _ (by decide)

/-! ## Contents -/

/-- The staged operands of device `c`: its rows of `x`, its columns of `w`, the two scales. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))
def sxstg (c : Dev nD) : (cc0_stg2_0 : Ref sig .tc).ty.Contents (Elt F) :=
  (win0_2.blk (0 : Fin 1)).view.read (Elt F) (m ((c : Thread nD τ).loc main_arg2))
def swstg (c : Dev nD) : (cc0_stg3_0 : Ref sig .tc).ty.Contents (Elt F) :=
  (win0_3.blk (0 : Fin 1)).view.read (Elt F) (m ((c : Thread nD τ).loc main_arg3))

/-- Lane `n` of device `c`'s rows of `x`. -/
def V (c : Dev nD) (n : Fin 2) : S256x4096.Idx → Elt F .fp8e5m2 :=
  (ownM n : Memref sig .tc .vmem S256x4096 .fp8e5m2).view.read (Elt F) (xstg m c)

/-- A memref of one lane held at share `q` with the lane `X` in it. -/
def held (c : Dev nD) (M : Memref sig .tc .vmem S256x4096 .fp8e5m2) (q : PosShare TreeShare) (X : S256x4096.Idx → Elt F .fp8e5m2) : sProp 𝕄 :=
  M.view.loc (c : Thread nD τ) ↦[M.view.set]{q} M.view.rep X

/-- The slot of a transfer on device `c`, held whole at some contents. -/
def slotAny (c : Dev nD) (t : T) : sProp 𝕄 :=
  iprop(∃ f, (slotM t.1 t.2.1 t.2.2).view.loc (c : Thread nD τ) ↦[(slotM t.1 t.2.1 t.2.2).view.set]{fullShare} f)

/-- The share of its source a transfer travels with: of the copied rows a quarter for each stream, of a slot one half. -/
def shr (s : Fin 2) (l : Fin 4) : PosShare TreeShare := match l with
  | ⟨0, _⟩ => if s = 0 then fullShare.left.left else fullShare.left.right
  | ⟨_ + 1, _⟩ => fullShare.left

/-- The source share of device `c`'s transfer: the rows the transfer brings to the device it lands on. -/
def srcPiece (c : Dev nD) (t : T) : sProp 𝕄 :=
  held c (srcM t.1 t.2.1 t.2.2) (shr t.1 t.2.1) (V m (org t.1 t.2.1 (dst t.1 c)) t.2.2)
/-- The slot of device `c` the transfer landed in. -/
def landed (c : Dev nD) (t : T) : sProp 𝕄 :=
  held c (slotM t.1 t.2.1 t.2.2) fullShare (V m (org t.1 t.2.1 c) t.2.2)
/-- The landing slots of stream `s` on the device it travels to from `c`. -/
def barPay (c : Dev nD) (s : Fin 2) : sProp 𝕄 :=
  bigSep Finset.univ fun ln : Fin 4 × Fin 2 => if act (s, ln.1, ln.2) then slotAny (dst s c) (s, ln.1, ln.2) else iprop(emp)

omit [FloatOps F] in
instance held_storable [FloatOps F] (c : Dev nD) (M q X) : BI.Storable (upEmb : UEmb _ 𝕄) (held (F := F) c M q X) := by unfold held; infer_instance
instance slotAny_storable (c : Dev nD) (t : T) : BI.Storable (upEmb : UEmb _ 𝕄) (slotAny (F := F) c t) := by unfold slotAny; infer_instance
instance barPay_storable (c : Dev nD) (s : Fin 2) : BI.Storable (upEmb : UEmb _ 𝕄) (barPay (F := F) c s) := by
  unfold barPay
  have (ln : Fin 4 × Fin 2) : BI.Storable (upEmb : UEmb _ 𝕄) (if act (s, ln.1, ln.2) then slotAny (F := F) (dst s c) (s, ln.1, ln.2) else iprop(emp)) := by
    split <;> infer_instance
  infer_instance

/-! ## The schedule -/

/-- The duties of a cell in its one round. -/
def dutiesOf (sm : SemLoc sig) : Finset (Fin 2) := match sm with
  | .reg _ => Finset.univ
  | .dma q => match dec q with
    | some d => if act d.2 then {0} else ∅
    | none => ∅

/-- What a duty of a cell of device `c` hands over. -/
def payOf (c : Dev nD) (sm : SemLoc sig) (d : Fin 2) : sProp 𝕄 := match sm with
  | .reg _ => barPay c d
  | .dma q => match dec q with
    | some (0, t) => srcPiece m c t
    | some (1, t) => landed m c t
    | none => iprop(emp)

def amountOf (sm : SemLoc sig) : ℕ := match sm with
  | .reg _ => 1
  | .dma _ => N

def rd : Rounds.Schedule (GSem nD τ sig) (Fin 2) 𝕄 where
  duties g r := if r = 0 ∧ g.1.2 = .tc then dutiesOf g.2 else ∅
  unitless _ := False
  amount g _ _ := amountOf g.2
  payload g _ d := payOf m g.1.1 g.2 d
  amount_pos g _ _ _ := by
    rcases g with ⟨_, _ | _⟩
    · exact Nat.one_pos
    · exact N_pos

instance rd_payload_storable (g : GSem nD τ sig) (r : ℕ) (d : Fin 2) :
    BI.Storable (upEmb : UEmb _ 𝕄) ((rd (F := F) m).payload g r d) := by
  show BI.Storable upEmb (payOf m g.1.1 g.2 d)
  unfold payOf srcPiece landed
  (repeat' split) <;> infer_instance

theorem duties_bar (c : Dev nD) : (rd (F := F) m).duties (barCell c) 0 = Finset.univ := by
  dsimp only [rd]; exact if_pos ⟨rfl, rfl⟩
theorem duties_dma (c : Dev nD) (d : Fin 2 × T) : (rd (F := F) m).duties (dmaCell c d) 0 = if act d.2 then {0} else ∅ := by
  dsimp only [rd]; rw [if_pos ⟨rfl, rfl⟩]
  unfold dutiesOf
  simp only [dec_dmaQ]
theorem duties_later (g : GSem nD τ sig) : ∀ r, 1 ≤ r → (rd (F := F) m).duties g r = ∅ :=
  fun r hr => if_neg fun h => by omega
/-- A cell of a transfer that does not happen has no duty at all. -/
theorem duties_idle (c : Dev nD) (d : Fin 2 × T) (h : act d.2 = false) : ∀ r, 0 ≤ r → (rd (F := F) m).duties (dmaCell c d) r = ∅ := fun r _ => by
  rcases Nat.eq_zero_or_pos r with rfl | hr
  · rw [duties_dma, h]; rfl
  · exact duties_later m _ r hr

theorem expect_bar (c : Dev nD) : (rd (F := F) m).expect (barCell c) 0 = 2 := by
  unfold Schedule.expect Schedule.amountOf
  rw [duties_bar, Finset.sum_congr rfl fun d _ => (rfl : (rd (F := F) m).amount (barCell c) 0 d = 1)]; rfl
theorem expect_dma (c : Dev nD) (d : Fin 2 × T) (h : act d.2 = true) : (rd (F := F) m).expect (dmaCell c d) 0 = N := by
  unfold Schedule.expect Schedule.amountOf; rw [duties_dma, h, if_pos rfl, Finset.sum_singleton]; rfl

theorem payload_bar (c : Dev nD) (d : Fin 2) : (rd (F := F) m).payload (barCell c) 0 d = barPay c d := rfl
theorem payload_send (c : Dev nD) (t : T) (j : Fin 2) : (rd (F := F) m).payload (dmaCell c (0, t)) 0 j = srcPiece m c t := by
  show payOf m c (.dma (dmaQ (0, t))) j = _
  unfold payOf; simp only [dec_dmaQ]
theorem payload_recv (c : Dev nD) (t : T) (j : Fin 2) : (rd (F := F) m).payload (dmaCell c (1, t)) 0 j = landed m c t := by
  show payOf m c (.dma (dmaQ (1, t))) j = _
  unfold payOf; simp only [dec_dmaQ]

/-- What the wait on a cell hands over in full. -/
theorem rest_bar (c : Dev nD) : bigSep ((rd (F := F) m).duties (barCell c) 0 \ ∅) (fun d => (rd (F := F) m).payload (barCell c) 0 d)
    = iprop(barPay c 0 ∗ barPay c 1) := by
  rw [Finset.sdiff_empty, duties_bar, bigSep_univ_eq_bigSepL [(0 : Fin 2), 1] (by decide) (by decide), bigSepL_cons_cons, bigSepL_singleton]
  rfl
theorem rest_send (c : Dev nD) (t : T) (h : act t = true) :
    bigSep ((rd (F := F) m).duties (dmaCell c (0, t)) 0 \ ∅) (fun d => (rd (F := F) m).payload (dmaCell c (0, t)) 0 d) = srcPiece m c t := by
  rw [Finset.sdiff_empty, duties_dma, h, if_pos rfl, bigSep_singleton, payload_send]
theorem rest_recv (c : Dev nD) (t : T) (h : act t = true) :
    bigSep ((rd (F := F) m).duties (dmaCell c (1, t)) 0 \ ∅) (fun d => (rd (F := F) m).payload (dmaCell c (1, t)) 0 d) = landed m c t := by
  rw [Finset.sdiff_empty, duties_dma, h, if_pos rfl, bigSep_singleton, payload_recv]

/-! ## Debts and levels -/

/-- The debt of the transfers still to be sent, in program order. -/
def owedL (c : Dev nD) : List T → CellTallies nD τ sig Unit
  | [] => 0
  | t :: ts => owedL c ts + tallyAt (dmaCell (dst t.1 c) (1, t)) () N

/-- The transfers in the order they are sent. -/
def sends : List T := [(0, 0, 0), (1, 0, 0), (0, 0, 1), (1, 0, 1), (0, 1, 0), (1, 1, 1), (0, 1, 1), (1, 1, 0),
  (0, 2, 0), (1, 2, 1), (0, 2, 1), (1, 2, 0), (0, 3, 0), (1, 3, 1)]
theorem sends_count : ∀ t, sends.count t = if act t then 1 else 0 := by decide

/-- What device `c` owes at launch: its transfers, and a unit to the barrier of each neighbour. -/
def O₁ (c : Dev nD) : CellTallies nD τ sig Unit := owedL c sends + tallyAt (barCell (src 1 c)) () 1
def O₀ (c : Dev nD) : CellTallies nD τ sig Unit := O₁ c + tallyAt (barCell (src 0 c)) () 1

def L (g : GSem nD τ sig) : Finset Unit := if g.1.2 = .tc then {()} else ∅
/-- The barrier at 1, the receive cells at 2 plus their level, everything else at 0. -/
def lvOf (sm : SemLoc sig) : ℕ := match sm with
  | .reg _ => 1
  | .dma q => match dec q with
    | some (1, t) => 2 + t.2.1.val
    | _ => 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (t : T) : lv (dmaCell c (1, t)) () = 2 + t.2.1.val := by
  show lvOf (.dma (dmaQ (1, t))) = _
  unfold lvOf; simp only [dec_dmaQ]

/-- What is owed to a cell by the transfers of a list is owed to the receive cell of one of them. -/
theorem owedL_pos {c : Dev nD} {g : GSem nD τ sig} {u : Unit} : ∀ {ts : List T}, 0 < owedL c ts g u → ∃ t ∈ ts, g = dmaCell (dst t.1 c) (1, t)
  | [], h => absurd h (Nat.lt_irrefl 0)
  | t :: ts, h => by
    unfold owedL at h
    rw [Pi.add_apply, Finsupp.add_apply, tallyAt_apply] at h
    by_cases hg : g = dmaCell (dst t.1 c) (1, t)
    · exact ⟨t, List.mem_cons_self, hg⟩
    · rw [if_neg (fun h' => hg h'.1), Nat.add_zero] at h
      obtain ⟨t', ht', hg'⟩ := owedL_pos h
      exact ⟨t', List.mem_cons_of_mem _ ht', hg'⟩

/-- A device may wait on a cell while it owes transfers whose level is above the cell's. -/
theorem mayWait_of (c : Dev nD) (sm : SemLoc sig) (ts : List T) (h : ∀ t ∈ ts, lvOf sm < 2 + t.2.1.val) :
    (levAts L lv : sProp 𝕄) ⊢ MayWait (c : Thread nD τ) sm () (owedL c ts) :=
  MayOwe.of_cut (L := L) (lev := lv) (lvOf sm) (fun p hp => by rw [Finset.mem_singleton.mp hp, L_tc]; exact Finset.mem_singleton_self _)
    (fun g u hg => by obtain ⟨t, -, rfl⟩ := owedL_pos hg; exact Finset.mem_singleton_self _)
    (fun p hp => by rw [Finset.mem_singleton.mp hp]; exact Nat.le_refl _)
    (fun g u hg => by obtain ⟨t, ht, rfl⟩ := owedL_pos hg; cases u; rw [lv_recv]; exact h t ht)

theorem O₀_pos {c : Dev nD} {g : GSem nD τ sig} {u : Unit} (h : 0 < O₀ c g u) :
    (∃ t ∈ sends, g = dmaCell (dst t.1 c) (1, t)) ∨ ∃ d, g = barCell d := by
  unfold O₀ O₁ at h
  rw [Pi.add_apply, Finsupp.add_apply, Pi.add_apply, Finsupp.add_apply, tallyAt_apply, tallyAt_apply] at h
  by_cases h1 : g = barCell (src 1 c)
  · exact .inr ⟨_, h1⟩
  by_cases h0 : g = barCell (src 0 c)
  · exact .inr ⟨_, h0⟩
  rw [if_neg (fun h' => h1 h'.1), if_neg (fun h' => h0 h'.1), Nat.add_zero] at h
  exact .inl (owedL_pos (ts := sends) h)

/-- A staging semaphore, at level 0, may be waited on whatever the ring owes. -/
theorem mayWait_stage (c : Dev nD) (sm : SemLoc sig) (hq : lvOf sm = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, -, rfl⟩ | ⟨d, rfl⟩ <;> exact Finset.mem_singleton_self _)
      (fun p hp => by rw [Finset.mem_singleton.mp hp]; exact Nat.le_of_eq hq)
      (fun g u hg => by
        rcases O₀_pos hg with ⟨t, -, rfl⟩ | ⟨d, rfl⟩
        · cases u; rw [lv_recv]; omega
        · exact Nat.one_pos)
  · rw [MayWait_zero]; iintro -; iempintro

end Cert.RingProof

end
-- ==== Proof.Out.lean ====
/-
# What the kernel's output holds

Device `c`'s output has eight blocks of 512 rows, one per device's rows of `x`. Its own block is one product; each other
block is two products, one per lane. This module gives the array these products make up, the rows each product is
stored at, and that storing a product leaves the rows stored before as they were.
-/
module

public import proofs.«01_k».proof.Proof.Schedule
public import Idealize.ShloMosaic.Lib.Pipeline.Value
public import Idealize.ShloMosaic.Lib.ValueLayout

@[expose] public section

noncomputable section

namespace Cert.RingProof

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ)

/-- The product of the two scales on device `c`. -/
def sc (c : Dev nD) : F .f32 :=
  k0_pay1 ((sxM.access sR).read (Elt F) (sxstg m c) (Shape.Idx.first (numel1_S1.symm ▸ Nat.one_pos)))
    ((swM.access sR).read (Elt F) (swstg m c) (Shape.Idx.first (numel1_S1.symm ▸ Nat.one_pos)))

/-- A lane of rows with the unit axis a landing slot is loaded with. -/
def slab (X : S256x4096.Idx → Elt F .fp8e5m2) : S1x256x4096.Idx → Elt F .fp8e5m2 :=
  shapeCast S1x256x4096 X shapeCasts_S1x256x4096_S256x4096.symm

omit [FloatOps F] in
/-- Loading a slot through its landing buffer gives the rows its memref reads. -/
theorem slot_load (s : Fin 2) (l : Fin 4) (n : Fin 2) (f : (stM s).view.ty.Contents (Elt F)) :
    (stM s).view.readAt (Elt F) (slotR l n).toLoadRect f = slab ((slotM s l n).view.read (Elt F) f) := by
  unfold slab
  rw [Memref.read_squeeze_slice (stM s) (slotR l n) (fun _ => rfl) squeezes_S1x256x4096_S256x4096 shapeCasts_S1x256x4096_S256x4096 f]
  exact (shapeCast_shapeCast _ _ _).symm

/-- The product of device `c`'s own rows; -/
def prodOwn (c : Dev nD) : FVec F S512x256 .f32 := k0_pay5 (sc m c) (xstg m c) (wstg m c)
/-- the product of lane `n` of device `d`'s rows on device `c`. -/
def prodOf (c d : Dev nD) (n : Fin 2) : FVec F S256x256 .f32 := k0_pay6 (sc m c) (slab (V m d n)) (wstg m c)

/-- The device whose rows output row `i` belongs to, the lane, and the row within it. -/
def rowDev (i : S4096x256.Idx) : Dev nD := ⟨(i 0).val / 512, by have : (i 0).val < 4096 := (i 0).isLt; show _ < 8; omega⟩
def rowLane (i : S4096x256.Idx) : Fin 2 := ⟨(i 0).val % 512 / 256, by omega⟩

/-- Device `c`'s output. -/
def outC (c : Dev nD) : (cc0_stg4_0 : Ref sig .tc).ty.Contents (Elt F) := fun i : S4096x256.Idx =>
  if rowDev i = c then prodOwn m c (ix2 ⟨(i 0).val % 512, Nat.mod_lt _ (by decide)⟩ (i 1))
  else prodOf m c (rowDev i) (rowLane i) (ix2 ⟨(i 0).val % 256, Nat.mod_lt _ (by decide)⟩ (i 1))

theorem off1_eq : ∀ c : Dev nD, k0_off1 c = ![512 * c.val, 0] := by decide +kernel

theorem org_ne_self : ∀ (s : Fin 2) (l : Fin 4) (n : Fin 2) (c : Dev nD), org s l c ≠ c := by decide

omit [FloatOps F] in
/-- The rows of a received product are those of its device and lane. -/
theorem mem_outR (s : Fin 2) (l : Fin 4) (n : Fin 2) (c : Dev nD) (i : S4096x256.Idx) :
    i ∈ (outR s l n c).set ↔ rowDev i = org s l c ∧ rowLane i = n := by
  have h0 : (i 0).val < 4096 := (i 0).isLt
  have h1 : (i 1).val < 256 := (i 1).isLt
  have hn := n.isLt
  have ho : (org s l c).val < 8 := (org s l c).isLt
  have e : offs s l n c = ![512 * (org s l c).val + 256 * n.val, 0] := offs_eq s l n c
  rw [Rect.mem_set_unit, Fin.forall_fin_two, Fin.ext_iff, Fin.ext_iff, e]
  show ((512 * (org s l c).val + 256 * n.val ≤ (i 0).val ∧ (i 0).val < 512 * (org s l c).val + 256 * n.val + 256) ∧ 0 ≤ (i 1).val ∧ (i 1).val < 0 + 256)
    ↔ (i 0).val / 512 = (org s l c).val ∧ (i 0).val % 512 / 256 = n.val
  omega

omit [FloatOps F] in
theorem mem_outOwnR (c : Dev nD) (i : S4096x256.Idx) : i ∈ (outOwnR c).set ↔ rowDev i = c := by
  have h0 : (i 0).val < 4096 := (i 0).isLt
  have h1 : (i 1).val < 256 := (i 1).isLt
  have ho : c.val < 8 := c.isLt
  rw [Rect.mem_set_unit, Fin.forall_fin_two, Fin.ext_iff, off1_eq]
  show ((512 * c.val ≤ (i 0).val ∧ (i 0).val < 512 * c.val + 512) ∧ 0 ≤ (i 1).val ∧ (i 1).val < 0 + 256) ↔ (i 0).val / 512 = c.val
  omega

/-- The output's contents. -/
abbrev OutC (F : FTy → Type) [FloatOps F] : Type := (cc0_stg4_0 : Ref sig .tc).ty.Contents (Elt F)

omit [FloatOps F] in
/-- Storing a block that agrees with an array on its rows: they hold the array's values, the others what they held. -/
theorem write_rows [FloatOps F] (r : Rect S4096x256) (g H : OutC F) (w : r.shape.Idx → Elt F .f32) (hw : ∀ x, w x = H (r.emb x)) (i : S4096x256.Idx) :
    (oM.access r : View sig .tc _ _ _).write (Elt F) g w Finset.univ i = if i ∈ r.set then H i else g i := by
  by_cases h : i ∈ r.set
  · rw [if_pos h]
    obtain ⟨x, rfl⟩ : ∃ x, r.emb x = i := by
      have h' := h; rw [← Rect.map_emb_univ] at h'; obtain ⟨x, -, hx⟩ := Finset.mem_map.mp h'; exact ⟨x, hx⟩
    exact (View.write_emb_of_mem (Val := Elt F) (v := (oM.access r : View sig .tc _ _ _)) g w (Finset.mem_univ x)).trans (hw x)
  · rw [if_neg h]
    refine View.write_of_not_mem (v := (oM.access r : View sig .tc _ _ _)) g w _ (fun h' => h ?_)
    rw [View.setOn_univ, View.set_slice_whole] at h'
    exact h'

/-- A received product agrees with the output on its rows; -/
theorem prodOf_rows (s : Fin 2) (l : Fin 4) (n : Fin 2) (c : Dev nD) (x : S256x256.Idx) :
    prodOf m c (org s l c) n x = outC m c ((outR s l n c).emb x) := by
  have hm : (outR s l n c).emb x ∈ (outR s l n c).set := by rw [← Rect.map_emb_univ]; exact Finset.mem_map_of_mem _ (Finset.mem_univ x)
  obtain ⟨hd, hl⟩ := (mem_outR s l n c _).mp hm
  unfold outC
  rw [if_neg (by rw [hd]; exact org_ne_self s l n c), hd, hl]
  refine congrArg (prodOf m c (org s l c) n) (funext fun a => Fin.ext ?_)
  have hv : ∀ a, ((outR s l n c).emb x a).val = offs s l n c a + 1 * (x a).val := fun a => rfl
  have hx0 : (x 0).val < 256 := (x 0).isLt
  have hn := n.isLt
  fin_cases a
  · show (x 0).val = ((outR s l n c).emb x 0).val % 256
    rw [hv 0, offs_eq]
    show (x 0).val = (512 * (org s l c).val + 256 * n.val + 1 * (x 0).val) % 256
    omega
  · show (x 1).val = ((outR s l n c).emb x 1).val
    rw [hv 1, offs_eq]
    show (x 1).val = 0 + 1 * (x 1).val
    omega
/-- the own product likewise. -/
theorem prodOwn_rows (c : Dev nD) (x : S512x256.Idx) : prodOwn m c x = outC m c ((outOwnR c).emb x) := by
  have hm : (outOwnR c).emb x ∈ (outOwnR c).set := by rw [← Rect.map_emb_univ]; exact Finset.mem_map_of_mem _ (Finset.mem_univ x)
  unfold outC
  rw [if_pos ((mem_outOwnR c _).mp hm)]
  refine congrArg (prodOwn m c) (funext fun a => Fin.ext ?_)
  have hv : ∀ a, ((outOwnR c).emb x a).val = k0_off1 c a + 1 * (x a).val := fun a => rfl
  have hx0 : (x 0).val < 512 := (x 0).isLt
  fin_cases a
  · show (x 0).val = ((outOwnR c).emb x 0).val % 512
    rw [hv 0, off1_eq]
    show (x 0).val = (512 * c.val + 1 * (x 0).val) % 512
    omega
  · show (x 1).val = ((outOwnR c).emb x 1).val
    rw [hv 1, off1_eq]
    show (x 1).val = 0 + 1 * (x 1).val
    omega

/-! ## What has been stored so far -/

/-- The output holds the own product if `o`, and the product of every transfer `gm` marks. -/
def outOk (c : Dev nD) (o : Bool) (gm : T → Bool) (g : OutC F) : Prop :=
  ∀ i : S4096x256.Idx, ((o = true ∧ rowDev i = c) ∨ ∃ t, gm t = true ∧ rowDev i = org t.1 t.2.1 c ∧ rowLane i = t.2.2) → g i = outC m c i

theorem outOk_none (c : Dev nD) (g : OutC F) : outOk m c false (fun _ => false) g := fun i h => by
  rcases h with ⟨h, _⟩ | ⟨t, h, _⟩ <;> cases h

/-- Storing the own product adds it; -/
theorem outOk_own {c : Dev nD} {gm : T → Bool} {g : OutC F} (h : outOk m c false gm g) :
    outOk m c true gm ((oM.access (outOwnR c) : View sig .tc _ _ _).write (Elt F) g (prodOwn m c) Finset.univ) := fun i hi => by
  rw [write_rows (outOwnR c) g (outC m c) (prodOwn m c) (prodOwn_rows m c)]
  by_cases hr : i ∈ (outOwnR c).set
  · rw [if_pos hr]
  · rw [if_neg hr]
    refine h i ?_
    rcases hi with ⟨_, hi⟩ | hi
    · exact absurd ((mem_outOwnR c i).mpr hi) hr
    · exact .inr hi
/-- storing a transfer's product adds it. -/
theorem outOk_gemm {c : Dev nD} {o : Bool} {gm : T → Bool} {g : OutC F} (t : T) (h : outOk m c o gm g) :
    outOk m c o (Function.update gm t true) ((oM.access (outR t.1 t.2.1 t.2.2 c) : View sig .tc _ _ _).write (Elt F) g (prodOf m c (org t.1 t.2.1 c) t.2.2) Finset.univ) := fun i hi => by
  rw [write_rows (outR t.1 t.2.1 t.2.2 c) g (outC m c) (prodOf m c (org t.1 t.2.1 c) t.2.2) (prodOf_rows m t.1 t.2.1 t.2.2 c)]
  by_cases hr : i ∈ (outR t.1 t.2.1 t.2.2 c).set
  · rw [if_pos hr]
  · rw [if_neg hr]
    refine h i ?_
    rcases hi with hi | ⟨t', ht', hi⟩
    · exact .inl hi
    · refine .inr ⟨t', ?_, hi⟩
      by_cases he : t' = t
      · subst he; exact absurd ((mem_outR t'.1 t'.2.1 t'.2.2 c i).mpr hi) hr
      · rwa [Function.update_of_ne he] at ht'

theorem rows_covered : ∀ (c d : Dev nD) (n : Fin 2), d = c ∨ ∃ t : T, act t = true ∧ d = org t.1 t.2.1 c ∧ n = t.2.2 := by decide

/-- With every product stored the output is the whole of it. -/
theorem outOk_all {c : Dev nD} {g : OutC F} (h : outOk m c true act g) : g = outC m c := funext fun i => h i (by
  rcases rows_covered c (rowDev i) (rowLane i) with h | h
  · exact .inl ⟨rfl, h⟩
  · exact .inr h)

end Cert.RingProof

end
-- ==== Proof.Steps.lean ====
/-
# The ring's steps

What a device holds between two steps of the ring is a function of a small state: how far each of its transfers has
gone, which transfers have landed, which source shares it holds, which products are stored and which transfers it still
has to send. This module states that, proves one rule for each kind of step at any transfer, and from them the rule for
a list of steps.
-/
module

public import proofs.«01_k».proof.Proof.Out

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What every device knows -/

/-- A device's cells: its barrier, and the send and receive cell of every transfer. -/
abbrev KC : Type := Unit ⊕ (Fin 2 × T)
def kcell (ck : Dev nD × KC) : GSem nD τ sig := match ck.2 with
  | .inl _ => barCell ck.1
  | .inr d => dmaCell ck.1 d

/-- Every cell of the mesh runs the schedule and has reached its round; the levels of the waits. -/
def known : sProp 𝕄 :=
  iprop((bigSep Finset.univ fun ck : Dev nD × KC => iprop(∃ κ : ℕ, cellInv ER (rd m) κ (kcell ck)))
    ∗ (bigSep Finset.univ fun ck : Dev nD × KC => reached ER (kcell ck) 0) ∗ levAts L lv)
instance known_persistent : BI.Persistent (known m) := by unfold known; infer_instance

theorem known_inv (ck : Dev nD × KC) : known m ⊢ iprop(∃ κ : ℕ, cellInv ER (rd m) κ (kcell ck)) :=
  (show known m ⊢ bigSep Finset.univ fun ck : Dev nD × KC => iprop(∃ κ : ℕ, cellInv ER (rd m) κ (kcell ck)) from by
    unfold known; iintro ⟨#H, -⟩; iexact H).trans (bigSep_elim (Finset.mem_univ ck))
theorem known_reached (ck : Dev nD × KC) : known m ⊢ reached ER (kcell ck) 0 :=
  (show known m ⊢ bigSep Finset.univ fun ck : Dev nD × KC => reached ER (kcell ck) 0 from by
    unfold known; iintro ⟨-, #H, -⟩; iexact H).trans (bigSep_elim (Finset.mem_univ ck))
theorem known_levels : known m ⊢ levAts L lv := by unfold known; iintro ⟨-, -, H⟩; iexact H

/-! ## The state between two steps -/

structure St where
  /-- per transfer: not sent, in flight, departed -/
  sd : T → Fin 3
  /-- per transfer: landed here -/
  rv : T → Bool
  /-- per transfer: its source share is held -/
  sr : T → Bool
  /-- the own product is stored -/
  own : Bool
  /-- per transfer: its product is stored -/
  gm : T → Bool
  /-- the transfers still to be sent -/
  todo : List T

instance : DecidableEq St := fun a b =>
  decidable_of_iff (a.sd = b.sd ∧ a.rv = b.rv ∧ a.sr = b.sr ∧ a.own = b.own ∧ a.gm = b.gm ∧ a.todo = b.todo)
    ⟨fun ⟨h1, h2, h3, h4, h5, h6⟩ => by cases a; cases b; cases h1; cases h2; cases h3; cases h4; cases h5; cases h6; rfl, fun h => h ▸ ⟨rfl, rfl, rfl, rfl, rfl, rfl⟩⟩

/-- A transfer of device `c`: not sent, it has its landing slot and the right to signal both cells; in flight, its
    credit; departed, its send cell closed. -/
def sdAt (c : Dev nD) (t : T) (x : Fin 3) : sProp 𝕄 :=
  if act t then match x with
    | 0 => iprop(slotAny (dst t.1 c) t ∗ dutyTok ER (dmaCell c (0, t)) 0 0 ∗ dutyTok ER (dmaCell (dst t.1 c) (1, t)) 0 0 ∗ atPos ER (dmaCell c (0, t)) 0 ∅ 0)
    | 1 => iprop(cred (tallyAt (dmaCell c (0, t)) () N) ∗ atPos ER (dmaCell c (0, t)) 0 ∅ 0)
    | 2 => semVal (dmaCell c (0, t)) 0
  else iprop(emp)

/-- The share of a landed slot that stays with it: all of it at the last level, else the half not sent on. -/
def keep (t : T) : PosShare TreeShare := if t.2.1 = 3 then fullShare else fullShare.right

/-- A transfer to device `c`: not landed, the credit of its arrival; landed, its receive cell closed and its rows. -/
def rvAt (c : Dev nD) (t : T) (x : Bool) : sProp 𝕄 :=
  if act t then match x with
    | false => iprop(cred (tallyAt (dmaCell c (1, t)) () N) ∗ atPos ER (dmaCell c (1, t)) 0 ∅ 0)
    | true => iprop(semVal (dmaCell c (1, t)) 0 ∗ held c (slotM t.1 t.2.1 t.2.2) (keep t) (V m (org t.1 t.2.1 c) t.2.2))
  else iprop(emp)

def srAt (c : Dev nD) (t : T) (x : Bool) : sProp 𝕄 := match x with
  | false => iprop(emp)
  | true => srcPiece m c t

/-- The output and the copied `w`. -/
def outAt (c : Dev nD) (own : Bool) (gm : T → Bool) : sProp 𝕄 :=
  iprop(∃ (g : OutC F) (f : (cc0_scratch3 : Ref sig .tc).ty.Contents (Elt F)), ⌜outOk m c own gm g ∧ (own = true → f = wstg m c)⌝
    ∗ ((c : Thread nD τ).loc cc0_stg4_0 ↦{fullShare} g) ∗ ((c : Thread nD τ).loc cc0_scratch3 ↦{fullShare} f))

/-- What a device holds between two steps. -/
def Inv (c : Dev nD) (σ : St) : sProp 𝕄 :=
  iprop((∃ W, owes (c : Thread nD τ) (owedL c σ.todo) W)
    ∗ (bigSep Finset.univ fun t => sdAt (F := F) c t (σ.sd t))
    ∗ (bigSep Finset.univ fun t => rvAt m c t (σ.rv t))
    ∗ (bigSep Finset.univ fun t => srAt m c t (σ.sr t))
    ∗ outAt m c σ.own σ.gm)

/-- The transfer a landed slot is sent on with. -/
def nextT (t : T) : T := (t.1, ⟨(t.2.1.val + 1) % 4, Nat.mod_lt _ (by decide)⟩, t.2.2)

/-- A step's effect on the state, where the step may be taken. -/
def exec (σ : St) : Op → Option St
  | .send s l n =>
    if act (s, l, n) = true ∧ σ.sd (s, l, n) = 0 ∧ σ.sr (s, l, n) = true ∧ σ.todo.head? = some (s, l, n) then
      some { σ with sd := Function.update σ.sd (s, l, n) 1, sr := Function.update σ.sr (s, l, n) false, todo := σ.todo.tail }
    else none
  | .recv s l n =>
    if act (s, l, n) = true ∧ σ.rv (s, l, n) = false ∧ ∀ t ∈ σ.todo, l.val < t.2.1.val then
      if l = 3 then some { σ with rv := Function.update σ.rv (s, l, n) true }
      else if σ.sr (nextT (s, l, n)) = false then
        some { σ with rv := Function.update σ.rv (s, l, n) true, sr := Function.update σ.sr (nextT (s, l, n)) true }
      else none
    else none
  | .gemm s l n =>
    if act (s, l, n) = true ∧ σ.rv (s, l, n) = true ∧ σ.own = true then some { σ with gm := Function.update σ.gm (s, l, n) true } else none
  | .wait s l n =>
    if act (s, l, n) = true ∧ σ.sd (s, l, n) = 1 ∧ σ.sr (s, l, n) = false ∧ σ.todo = [] then
      some { σ with sd := Function.update σ.sd (s, l, n) 2, sr := Function.update σ.sr (s, l, n) true }
    else none

def execL (σ : St) : List Op → Option St
  | [] => some σ
  | o :: os => (exec σ o).bind fun σ' => execL σ' os

/-! ## One transfer's part -/

theorem sdAt_idle {c : Dev nD} {t : T} (h : act t = true) : sdAt (F := F) c t 0
    = iprop(slotAny (dst t.1 c) t ∗ dutyTok ER (dmaCell c (0, t)) 0 0 ∗ dutyTok ER (dmaCell (dst t.1 c) (1, t)) 0 0 ∗ atPos ER (dmaCell c (0, t)) 0 ∅ 0) := if_pos h
theorem sdAt_flight {c : Dev nD} {t : T} (h : act t = true) : sdAt (F := F) c t 1
    = iprop(cred (tallyAt (dmaCell c (0, t)) () N) ∗ atPos ER (dmaCell c (0, t)) 0 ∅ 0) := if_pos h
theorem sdAt_departed {c : Dev nD} {t : T} (h : act t = true) : sdAt (F := F) c t 2 = semVal (dmaCell c (0, t)) 0 := if_pos h
theorem rvAt_false {c : Dev nD} {t : T} (h : act t = true) : rvAt m c t false
    = iprop(cred (tallyAt (dmaCell c (1, t)) () N) ∗ atPos ER (dmaCell c (1, t)) 0 ∅ 0) := if_pos h
theorem rvAt_true {c : Dev nD} {t : T} (h : act t = true) : rvAt m c t true
    = iprop(semVal (dmaCell c (1, t)) 0 ∗ held c (slotM t.1 t.2.1 t.2.2) (keep t) (V m (org t.1 t.2.1 c) t.2.2)) := if_pos h

theorem srAt_true (c : Dev nD) (t : T) : srAt m c t true = srcPiece m c t := rfl
theorem srAt_false (c : Dev nD) (t : T) : srAt m c t false = iprop(emp) := rfl
theorem slotAny_eq (c : Dev nD) (t : T) : slotAny (F := F) c t
    = iprop(∃ f, (slotM t.1 t.2.1 t.2.2).view.loc (c : Thread nD τ) ↦[(slotM t.1 t.2.1 t.2.2).view.set]{fullShare} f) := rfl

/-- One transfer's part, taken out and put back in another state. -/
theorem turn {α : Type} (Pt : T → α → sProp 𝕄) (f : T → α) (t : T) (x y : α) (h : f t = x) :
    (bigSep Finset.univ fun j => Pt j (f j)) ⊢ iprop(Pt t x ∗ (Pt t y -∗ bigSep Finset.univ fun j => Pt j (Function.update f t y j))) := by
  subst h
  iintro H
  ihave H := (bigSep_univ_turn (α := fun _ => α) Pt f t) $$ H
  icases H with ⟨H1, H2⟩
  isplitl [H1]; · iexact H1
  iintro Hy
  iapply H2; iexact Hy

/-! ## Sending -/

/-- A transfer's source share, sent, is what lands. -/
theorem landed_intro (c : Dev nD) (s : Fin 2) (l : Fin 4) (n : Fin 2) (fd : Buf (Elt F) ((slotM s l n).view.loc (dst s c : Thread nD τ))) :
    ((slotM s l n).view.loc (dst s c : Thread nD τ) ↦[(slotM s l n).view.set]{fullShare}
        ((slotM s l n).view.write (Elt F) fd ((srcM s l n).view.read (Elt F) ((srcM s l n).view.rep (V m (org s l (dst s c)) n))) Finset.univ) : sProp 𝕄)
      ⊢ landed m (dst s c) (s, l, n) := by
  unfold landed held
  rw [pointsTo_rep, View.read_write_univ, View.read_rep]

theorem wp_send (c d : Dev nD) (s : Fin 2) (l : Fin 4) (n : Fin 2) (hd : d = dst s c) (ha : act (s, l, n) = true) (κ₁ κ₂ : ℕ)
    (fd : Buf (Elt F) ((slotM s l n).view.loc (dst s c : Thread nD τ))) (ts : List T) (W : Waits sig Unit)
    {hsc : (slotM s l n).view.ref.isScScratch = false} {hsrc : (srcM s l n).view.WordExact} {hdst : (slotM s l n).view.WordExact}
    {hsem : DmaTarget.Typed .vmem (.dma (recvQ s l n)) (.remote (Dev.tc d : Thread nD τ) (slotM s l n) (.dma (sendQ s l n)) hsc)}
    {α : Type} {Q : α → sProp 𝕄} {k : PUnit.{1} → Prog (TpuEff nD τ sig (Elt F) Λ₀ .tc) α} :
    iprop(cellInv ER (rd m) κ₁ (dmaCell c (0, (s, l, n))) ∗ cellInv ER (rd m) κ₂ (dmaCell (dst s c) (1, (s, l, n)))
        ∗ srcPiece m c (s, l, n) ∗ ((slotM s l n).view.loc (dst s c : Thread nD τ) ↦[(slotM s l n).view.set]{fullShare} fd)
        ∗ owes (c : Thread nD τ) (owedL c ((s, l, n) :: ts)) W
        ∗ dutyTok ER (dmaCell c (0, (s, l, n))) 0 0 ∗ reached ER (dmaCell c (0, (s, l, n))) 0
        ∗ dutyTok ER (dmaCell (dst s c) (1, (s, l, n))) 0 0 ∗ reached ER (dmaCell (dst s c) (1, (s, l, n))) 0)
      ⊢ iprop(((cred (tallyAt (dmaCell c (0, (s, l, n))) () N) ∗ owes (c : Thread nD τ) (owedL c ts) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM s l n) (.remote (Dev.tc d : Thread nD τ) (slotM s l n) (.dma (sendQ s l n)) hsc) (.dma (recvQ s l n)) hsrc hdst hsem) k) Q) := by
  subst hd
  have hm1 : (0 : Fin 2) ∈ (rd (F := F) m).duties (dmaCell c (0, (s, l, n))) 0 := by rw [duties_dma, ha, if_pos rfl]; exact Finset.mem_singleton_self _
  have hm2 : (0 : Fin 2) ∈ (rd (F := F) m).duties (dmaCell (dst s c) (1, (s, l, n))) 0 := by rw [duties_dma, ha, if_pos rfl]; exact Finset.mem_singleton_self _
  exact Rounds.wp_send_pointsTo 𝒱₀ ER (rd m) (c : Thread nD τ) none (κ₁ := κ₁) (κ₂ := κ₂)
    (r₁ := 0) (r₂ := 0) (d₁ := 0) (d₂ := 0) (fd := fd) hm1 hm2
    () () N rfl rfl rfl (owedL c ts) rfl (W := W)
    (by rw [payload_send m c (s, l, n)]; exact .rfl)
    (by rw [payload_recv m (dst s c) (s, l, n)]; exact landed_intro m c s l n fd)

/-- The send step. -/
theorem step_send (c : Dev nD) (v15 : F .f32) (s : Fin 2) (l : Fin 4) (n : Fin 2) {σ σ' : St} (h : exec σ (.send s l n) = some σ')
    (k : PUnit.{1} → P F) (Q : PUnit.{1} → sProp 𝕄) :
    iprop(known m ∗ Inv m c σ ∗ (Inv m c σ' -∗ wp frame (wpE (defs₀ (F := F)) 𝒱₀ (c : Thread nD τ) none) Set.univ (k ⟨⟩) Q))
      ⊢ wp frame (wpE (defs₀ (F := F)) 𝒱₀ (c : Thread nD τ) none) Set.univ (sendP s l n c k) Q := by
  dsimp only [exec] at h
  split at h
  case isFalse => cases h
  case isTrue hc =>
  obtain ⟨ha, hsd, hsr, htd⟩ := hc
  cases h
  obtain ⟨ts, hts⟩ : ∃ ts, σ.todo = (s, l, n) :: ts := by
    cases hl : σ.todo with
    | nil => rw [hl] at htd; cases htd
    | cons a ts => rw [hl] at htd; cases htd; exact ⟨ts, rfl⟩
  unfold Inv
  dsimp only
  rw [hts, List.tail_cons]
  iintro ⟨#HK, ⟨⟨%W, HO⟩, HSD, HRV, HSR, HOut⟩, Hk⟩
  ihave HSD := (turn (sdAt (F := F) c) σ.sd (s, l, n) 0 1 hsd) $$ HSD
  ihave HSR := (turn (srAt m c) σ.sr (s, l, n) true false hsr) $$ HSR
  icases HSD with ⟨Hsd, HSD⟩
  icases HSR with ⟨Hsr, HSR⟩
  ihave Hsd := (Entails.of_eq (sdAt_idle ha)) $$ Hsd
  ihave Hsr := (Entails.of_eq (srAt_true m c (s, l, n))) $$ Hsr
  icases Hsd with ⟨Hslot, HtS, HtV, HatS⟩
  ihave Hslot := (Entails.of_eq (slotAny_eq (dst s c) (s, l, n))) $$ Hslot
  icases Hslot with ⟨%fd, Hslot⟩
  ihave HI1 := (known_inv m (c, .inr (0, (s, l, n)))) $$ HK
  ihave HI2 := (known_inv m (dst s c, .inr (1, (s, l, n)))) $$ HK
  icases HI1 with ⟨%κ₁, #HI1⟩
  icases HI2 with ⟨%κ₂, #HI2⟩
  ihave #HR1 := (known_reached m (c, .inr (0, (s, l, n)))) $$ HK
  ihave #HR2 := (known_reached m (dst s c, .inr (1, (s, l, n)))) $$ HK
  unfold sendP
  iapply (wp_send m c (devOf s c) s l n (devOf_eq s c) ha κ₁ κ₂ fd ts W) $$ [Hsr Hslot HO HtS HtV]
  · isplitr; · iexact HI1
    isplitr; · iexact HI2
    isplitl [Hsr]; · iexact Hsr
    isplitl [Hslot]; · iexact Hslot
    isplitl [HO]; · iexact HO
    isplitl [HtS]; · iexact HtS
    isplitr; · iexact HR1
    isplitl [HtV]; · iexact HtV
    iexact HR2
  iintro ⟨HcS, HO⟩
  iapply Hk
  isplitl [HO]; · iexists W; iexact HO
  isplitl [HSD HcS HatS]
  · iapply HSD
    iapply (Entails.of_eq (sdAt_flight ha).symm)
    isplitl [HcS] <;> iassumption
  isplitl [HRV]; · iexact HRV
  isplitl [HSR]; · iapply HSR; iapply (Entails.of_eq (srAt_false m c (s, l, n)).symm); iempintro
  iexact HOut

/-! ## Receiving -/

/-- A landed slot below the last level: the half that stays, and the source share of the transfer it is sent on with. -/
theorem landed_split (c : Dev nD) (s : Fin 2) (l : Fin 4) (n : Fin 2) (hl : l ≠ 3) :
    landed m c (s, l, n) = iprop(srcPiece m c (nextT (s, l, n)) ∗ held c (slotM s l n) (keep (s, l, n)) (V m (org s l c) n)) := by
  obtain ⟨l, rfl⟩ : ∃ l' : Fin 3, l = l'.castSucc := by revert hl; revert l; decide
  have hn : nextT (s, l.castSucc, n) = (s, l.succ, n) := by revert l; revert s n; decide
  have hk : keep (s, l.castSucc, n) = fullShare.right := if_neg hl
  have hm : srcM s l.succ n = slotM s l.castSucc n := by obtain ⟨l, h⟩ := l; rfl
  have hs : shr s l.succ = fullShare.left := by obtain ⟨l, h⟩ := l; rfl
  unfold landed srcPiece
  rw [hn, hk]
  dsimp only
  rw [hm, hs, org_succ_dst]
  unfold held
  exact (pointsTo_share (PosShare.mem_left_op_right fullShare)).1.antisymm (pointsTo_share (PosShare.mem_left_op_right fullShare)).2
theorem landed_last (c : Dev nD) (s : Fin 2) (n : Fin 2) :
    landed m c (s, 3, n) = held c (slotM s 3 n) (keep (s, 3, n)) (V m (org s 3 c) n) := rfl

theorem lv_recv' (t : T) : lvOf (.dma (dmaQ (1, t))) = 2 + t.2.1.val := by
  unfold lvOf; simp only [dec_dmaQ]

/-- The wait for a transfer's arrival: its slot landed, its receive cell closed. -/
theorem wp_recv (c : Dev nD) (t : T) (ha : act t = true) (κ : ℕ) (ts : List T) (hts : ∀ t' ∈ ts, t.2.1.val < t'.2.1.val) (W : Waits sig Unit)
    {hsrc : (srcM t.1 t.2.1 t.2.2).view.WordExact} {hdst : (slotM t.1 t.2.1 t.2.2).view.WordExact}
    {Q : PUnit.{1} → sProp 𝕄} {k : PUnit.{1} → P F} :
    iprop(cellInv ER (rd m) κ (dmaCell c (1, t)) ∗ cred (tallyAt (dmaCell c (1, t)) () N) ∗ owes (c : Thread nD τ) (owedL c ts) W
        ∗ levAts L lv ∗ atPos ER (dmaCell c (1, t)) 0 ∅ 0
        ∗ ((owes (c : Thread nD τ) (owedL c ts) (insert (SemLoc.dma (dmaQ (1, t)), ()) W) ∗ semVal (dmaCell c (1, t)) 0 ∗ landed m c t)
            -∗ wp frame (wpE (defs₀ (F := F)) 𝒱₀ (c : Thread nD τ) none) Set.univ (k ⟨⟩) Q))
      ⊢ wp frame (wpE (defs₀ (F := F)) 𝒱₀ (c : Thread nD τ) none) Set.univ
              (.op (.waitDma2 (dmaQ (1, t)) (srcM t.1 t.2.1 t.2.2) (slotM t.1 t.2.1 t.2.2) hsrc hdst) k) Q := by
  iintro ⟨#HI, HcV, HO, #Hlev, HatV, Hk⟩
  iapply (Rounds.wp_wait_rest_token 𝒱₀ ER (rd m) (c : Thread nD τ) none (κ := κ)
      (wpE_waitDma2_eq 𝒱₀ (c : Thread nD τ) none Set.univ) (Set.mem_univ _) () (O := owedL c ts) (W := W) (R := 0) (m := 0) (T := ∅)
      (by rw [Nat.zero_add]; exact (expect_dma m c (1, t) ha).symm)) $$ [HcV HO HatV]
  · isplitr; · iexact HI
    isplitl [HcV]; · iexact HcV
    isplitl [HO]; · iexact HO
    isplitr; · iapply (mayWait_of c (.dma (dmaQ (1, t))) ts (fun t' ht' => by rw [lv_recv']; exact Nat.add_lt_add_left (hts t' ht') 2)); iexact Hlev
    iexact HatV
  iintro ⟨HO, HatV, -, Hpay⟩
  ihave Hld := (Entails.of_eq (rest_recv m c t ha)) $$ Hpay
  imod (Rounds.cell_close ER (rd m) (Set.mem_univ κ) (fun h => h) (R := 0 + 1) (duties_later m (dmaCell c (1, t)))) $$ [HatV] with HzV
  · isplitr; · iexact HI
    iexact HatV
  iapply Hk
  isplitl [HO]; · iexact HO
  isplitl [HzV] <;> iassumption

/-- The wait for a transfer's departure: its source share back, its send cell closed. -/
theorem wp_departed (c : Dev nD) (t : T) (ha : act t = true) (κ : ℕ) (W : Waits sig Unit)
    {hsrc : (slotM t.1 t.2.1 t.2.2).view.WordExact} {hdst : (srcM t.1 t.2.1 t.2.2).view.WordExact}
    {Q : PUnit.{1} → sProp 𝕄} {k : PUnit.{1} → P F} :
    iprop(cellInv ER (rd m) κ (dmaCell c (0, t)) ∗ cred (tallyAt (dmaCell c (0, t)) () N) ∗ owes (c : Thread nD τ) (owedL c []) W
        ∗ atPos ER (dmaCell c (0, t)) 0 ∅ 0
        ∗ ((owes (c : Thread nD τ) (owedL c []) (insert (SemLoc.dma (dmaQ (0, t)), ()) W) ∗ semVal (dmaCell c (0, t)) 0 ∗ srcPiece m c t)
            -∗ wp frame (wpE (defs₀ (F := F)) 𝒱₀ (c : Thread nD τ) none) Set.univ (k ⟨⟩) Q))
      ⊢ wp frame (wpE (defs₀ (F := F)) 𝒱₀ (c : Thread nD τ) none) Set.univ
              (.op (.waitDma2 (dmaQ (0, t)) (slotM t.1 t.2.1 t.2.2) (srcM t.1 t.2.1 t.2.2) hsrc hdst) k) Q := by
  iintro ⟨#HI, HcS, HO, HatS, Hk⟩
  iapply (Rounds.wp_wait_rest_token 𝒱₀ ER (rd m) (c : Thread nD τ) none (κ := κ)
      (wpE_waitDma2_eq 𝒱₀ (c : Thread nD τ) none Set.univ) (Set.mem_univ _) () (O := owedL c []) (W := W) (R := 0) (m := 0) (T := ∅)
      (by rw [Nat.zero_add]; exact (expect_dma m c (0, t) ha).symm)) $$ [HcS HO HatS]
  · isplitr; · iexact HI
    isplitl [HcS]; · iexact HcS
    isplitl [HO]; · iexact HO
    isplitr; · unfold owedL; rw [MayWait_zero]; iempintro
    iexact HatS
  iintro ⟨HO, HatS, -, Hpay⟩
  ihave Hld := (Entails.of_eq (rest_send m c t ha)) $$ Hpay
  imod (Rounds.cell_close ER (rd m) (Set.mem_univ κ) (fun h => h) (R := 0 + 1) (duties_later m (dmaCell c (0, t)))) $$ [HatS] with HzS
  · isplitr; · iexact HI
    iexact HatS
  iapply Hk
  isplitl [HO]; · iexact HO
  isplitl [HzS] <;> iassumption

/-- The receive step. -/
theorem step_recv (c : Dev nD) (v15 : F .f32) (s : Fin 2) (l : Fin 4) (n : Fin 2) {σ σ' : St} (h : exec σ (.recv s l n) = some σ')
    (k : PUnit.{1} → P F) (Q : PUnit.{1} → sProp 𝕄) :
    iprop(known m ∗ Inv m c σ ∗ (Inv m c σ' -∗ wp frame (wpE (defs₀ (F := F)) 𝒱₀ (c : Thread nD τ) none) Set.univ (k ⟨⟩) Q))
      ⊢ wp frame (wpE (defs₀ (F := F)) 𝒱₀ (c : Thread nD τ) none) Set.univ (recvP s l n k) Q := by
  dsimp only [exec] at h
  split at h
  case isFalse => cases h
  case isTrue hc =>
  obtain ⟨ha, hrv, hts⟩ := hc
  unfold Inv
  iintro ⟨#HK, ⟨⟨%W, HO⟩, HSD, HRV, HSR, HOut⟩, Hk⟩
  ihave HRV := (turn (rvAt m c) σ.rv (s, l, n) false true hrv) $$ HRV
  icases HRV with ⟨Hrv, HRV⟩
  ihave Hrv := (Entails.of_eq (rvAt_false m ha)) $$ Hrv
  icases Hrv with ⟨HcV, HatV⟩
  ihave HI := (known_inv m (c, .inr (1, (s, l, n)))) $$ HK
  icases HI with ⟨%κ, #HI⟩
  unfold recvP
  iapply (wp_recv m c (s, l, n) ha κ σ.todo hts W)
  isplitr; · iexact HI
  isplitl [HcV]; · iexact HcV
  isplitl [HO]; · iexact HO
  isplitr; · iapply (known_levels m); iexact HK
  isplitl [HatV]; · iexact HatV
  iintro ⟨HO, HzV, Hld⟩
  iapply Hk
  split at h
  case isTrue hl =>
    subst hl
    cases h
    isplitl [HO]; · iexists _; iexact HO
    isplitl [HSD]; · iexact HSD
    isplitl [HRV HzV Hld]
    · iapply HRV
      iapply (Entails.of_eq (rvAt_true m ha).symm)
      isplitl [HzV]; · iexact HzV
      iapply (Entails.of_eq (landed_last m c s n)); iexact Hld
    isplitl [HSR]; · iexact HSR
    iexact HOut
  case isFalse hl =>
    split at h
    case isFalse => cases h
    case isTrue hsr =>
    cases h
    ihave HSR := (turn (srAt m c) σ.sr (nextT (s, l, n)) false true hsr) $$ HSR
    icases HSR with ⟨-, HSR⟩
    ihave Hld := (Entails.of_eq (landed_split m c s l n hl)) $$ Hld
    icases Hld with ⟨Hnext, Hkeep⟩
    isplitl [HO]; · iexists _; iexact HO
    isplitl [HSD]; · iexact HSD
    isplitl [HRV HzV Hkeep]
    · iapply HRV
      iapply (Entails.of_eq (rvAt_true m ha).symm)
      isplitl [HzV]; · iexact HzV
      iexact Hkeep
    isplitl [HSR Hnext]
    · iapply HSR; iapply (Entails.of_eq (srAt_true m c _).symm); iexact Hnext
    iexact HOut

/-- The step waiting for a transfer's departure. -/
theorem step_wait (c : Dev nD) (v15 : F .f32) (s : Fin 2) (l : Fin 4) (n : Fin 2) {σ σ' : St} (h : exec σ (.wait s l n) = some σ')
    (k : PUnit.{1} → P F) (Q : PUnit.{1} → sProp 𝕄) :
    iprop(known m ∗ Inv m c σ ∗ (Inv m c σ' -∗ wp frame (wpE (defs₀ (F := F)) 𝒱₀ (c : Thread nD τ) none) Set.univ (k ⟨⟩) Q))
      ⊢ wp frame (wpE (defs₀ (F := F)) 𝒱₀ (c : Thread nD τ) none) Set.univ (waitP s l n k) Q := by
  dsimp only [exec] at h
  split at h
  case isFalse => cases h
  case isTrue hc =>
  obtain ⟨ha, hsd, hsr, htd⟩ := hc
  cases h
  unfold Inv
  dsimp only
  rw [htd]
  iintro ⟨#HK, ⟨⟨%W, HO⟩, HSD, HRV, HSR, HOut⟩, Hk⟩
  ihave HSD := (turn (sdAt (F := F) c) σ.sd (s, l, n) 1 2 hsd) $$ HSD
  ihave HSR := (turn (srAt m c) σ.sr (s, l, n) false true hsr) $$ HSR
  icases HSD with ⟨Hsd, HSD⟩
  icases HSR with ⟨-, HSR⟩
  ihave Hsd := (Entails.of_eq (sdAt_flight ha)) $$ Hsd
  icases Hsd with ⟨HcS, HatS⟩
  ihave HI := (known_inv m (c, .inr (0, (s, l, n)))) $$ HK
  icases HI with ⟨%κ, #HI⟩
  unfold waitP
  iapply (wp_departed m c (s, l, n) ha κ W)
  isplitr; · iexact HI
  isplitl [HcS]; · iexact HcS
  isplitl [HO]; · iexact HO
  isplitl [HatS]; · iexact HatS
  iintro ⟨HO, HzS, Hsrc⟩
  iapply Hk
  isplitl [HO]; · iexists _; iexact HO
  isplitl [HSD HzS]
  · iapply HSD; iapply (Entails.of_eq (sdAt_departed ha).symm); iexact HzS
  isplitl [HRV]; · iexact HRV
  isplitl [HSR Hsrc]; · iapply HSR; iapply (Entails.of_eq (srAt_true m c _).symm); iexact Hsrc
  iexact HOut

/-! ## Multiplying -/

theorem hz : (![0, 0] : Fin 2 → Nat) = fun _ => 0 := funext fun a => by fin_cases a <;> rfl
theorem read_w8 (f : (cc0_scratch3 : Ref sig .tc).ty.Contents (Elt F)) : (w8M : Memref sig .tc .vmem S4096x256 .fp8e5m2).view.readAt (Elt F) wR.toLoadRect f = f :=
  Memref.readAt_unit_zero (Elt F) cc0_scratch3 hz _ f

/-- A load of a slot from its landing buffer. -/
theorem wp_load_slot (c : Dev nD) (s : Fin 2) (l : Fin 4) (n : Fin 2) (q : PosShare TreeShare) (X : S256x4096.Idx → Elt F .fp8e5m2)
    {hl : (stM s).view.LoadsAt (slotR l n).toLoadRect} {k : (S1x256x4096.Idx → Elt F .fp8e5m2) → P F} {Q : PUnit.{1} → sProp 𝕄} :
    held c (slotM s l n) q X
      ⊢ iprop((held c (slotM s l n) q X -∗ wp frame (wpE (defs₀ (F := F)) 𝒱₀ (c : Thread nD τ) none) Set.univ (k (slab X)) Q)
        -∗ wp frame (wpE (defs₀ (F := F)) 𝒱₀ (c : Thread nD τ) none) Set.univ (.op (.load (stM s) (slotR l n).toLoadRect hl) k) Q) := by
  have h := wp_load (Γ := .empty) (defs := defs₀ (F := F)) 𝒱₀ (c : Thread nD τ) none Set.univ (m := stM s) (r := (slotR l n).toLoadRect) (hl := hl) (k := k) (Q := Q)
    (S := (slotM s l n).view.set) (q := q) (f := (slotM s l n).view.rep X)
    (by rw [View.set_reshape, View.set_slice]; exact Finset.Subset.refl _)
  rw [slot_load, View.read_rep] at h
  exact h

/-- The product step. -/
theorem step_gemm (c : Dev nD) (s : Fin 2) (l : Fin 4) (n : Fin 2) {σ σ' : St} (h : exec σ (.gemm s l n) = some σ')
    (k : PUnit.{1} → P F) (Q : PUnit.{1} → sProp 𝕄) :
    iprop(known m ∗ Inv m c σ ∗ (Inv m c σ' -∗ wp frame (wpE (defs₀ (F := F)) 𝒱₀ (c : Thread nD τ) none) Set.univ (k ⟨⟩) Q))
      ⊢ wp frame (wpE (defs₀ (F := F)) 𝒱₀ (c : Thread nD τ) none) Set.univ (gemmP s l n c (sc m c) k) Q := by
  dsimp only [exec] at h
  split at h
  case isFalse => cases h
  case isTrue hc =>
  obtain ⟨ha, hrv, hown⟩ := hc
  cases h
  unfold Inv outAt
  dsimp only
  iintro ⟨#HK, ⟨HO, HSD, HRV, HSR, ⟨%g, %f, %hg, Hout, Hw⟩⟩, Hk⟩
  obtain ⟨hg, hf⟩ := hg
  have hf := hf hown
  subst hf
  ihave HRV := (turn (rvAt m c) σ.rv (s, l, n) true true hrv) $$ HRV
  icases HRV with ⟨Hrv, HRV⟩
  ihave Hrv := (Entails.of_eq (rvAt_true m ha)) $$ Hrv
  icases Hrv with ⟨HzV, Hslot⟩
  unfold gemmP
  iapply (wp_load_slot c s l n (keep (s, l, n)) (V m (org s l c) n)) $$ Hslot; iintro Hslot
  iapply (wp_load 𝒱₀ (c : Thread nD τ) none Set.univ (m := w8M) (Finset.subset_univ _)) $$ Hw; iintro Hw
  rw [read_w8]
  iapply (wp_load 𝒱₀ (c : Thread nD τ) none Set.univ (m := oM) (Finset.subset_univ _)) $$ Hout; iintro Hout
  iapply (wp_store 𝒱₀ (c : Thread nD τ) none Set.univ (m := oM) (r := outR s l n c) (Mk := Finset.univ) (Finset.subset_univ _)) $$ Hout; iintro Hout
  iapply Hk
  isplitl [HO]; · iexact HO
  isplitl [HSD]; · iexact HSD
  isplitl [HRV HzV Hslot]
  · rw [show σ.rv = Function.update σ.rv (s, l, n) true from (Function.update_eq_self_iff.mpr hrv.symm).symm]
    rw [Function.update_idem]
    iapply HRV
    iapply (Entails.of_eq (rvAt_true m ha).symm)
    isplitl [HzV] <;> iassumption
  isplitl [HSR]; · iexact HSR
  iexists _, (wstg m c)
  isplitr
  · ipureintro
    exact ⟨outOk_gemm m (s, l, n) hg, fun _ => rfl⟩
  isplitl [Hout]; · iexact Hout
  iexact Hw

/-! ## A list of steps -/

theorem run_ops (c : Dev nD) (k : PUnit.{1} → P F) (Q : PUnit.{1} → sProp 𝕄) : ∀ (ops : List Op) {σ σ' : St}, execL σ ops = some σ' →
    (iprop(known m ∗ Inv m c σ ∗ (Inv m c σ' -∗ wp frame (wpE (defs₀ (F := F)) 𝒱₀ (c : Thread nD τ) none) Set.univ (k ⟨⟩) Q))
      ⊢ wp frame (wpE (defs₀ (F := F)) 𝒱₀ (c : Thread nD τ) none) Set.univ (run c (sc m c) k ops) Q)
  | [], σ, σ', h => by
    cases h
    iintro ⟨-, HI, Hk⟩
    iapply Hk; iexact HI
  | o :: os, σ, σ', h => by
    obtain ⟨σ₁, h1, h2⟩ := Option.bind_eq_some_iff.mp h
    have step : iprop(known m ∗ Inv m c σ ∗ (Inv m c σ₁ -∗ wp frame (wpE (defs₀ (F := F)) 𝒱₀ (c : Thread nD τ) none) Set.univ (run c (sc m c) k os) Q))
        ⊢ wp frame (wpE (defs₀ (F := F)) 𝒱₀ (c : Thread nD τ) none) Set.univ (opP c (sc m c) (fun _ => run c (sc m c) k os) o) Q := by
      cases o with
      | send s l n => exact step_send m c (sc m c) s l n h1 (fun _ => run c (sc m c) k os) Q
      | recv s l n => exact step_recv m c (sc m c) s l n h1 (fun _ => run c (sc m c) k os) Q
      | gemm s l n => exact step_gemm m c s l n h1 (fun _ => run c (sc m c) k os) Q
      | wait s l n => exact step_wait m c (sc m c) s l n h1 (fun _ => run c (sc m c) k os) Q
    refine BIBase.Entails.trans ?_ step
    iintro ⟨#HK, HI, Hk⟩
    isplitr; · iexact HK
    isplitl [HI]; · iexact HI
    iintro HI
    iapply (run_ops c k Q os h2)
    isplitr; · iexact HK
    isplitl [HI]; · iexact HI
    iexact Hk

end Cert.RingProof

end
-- ==== Proof.Buffers.lean ====
/-
# Buffers held piece by piece

The copied rows are held lane by lane, the landing buffers slot by slot. This module cuts a buffer into those pieces and
puts it together again, and cuts a lane into the shares its two transfers and the own product read.
-/
module

public import proofs.«01_k».proof.Proof.Steps
public import Idealize.ShloMosaic.Lib.Ring

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

variable (m : (ℓ : Loc nD τ sig) → Buf (Elt F) ℓ)

/-! ## Lanes of the copied rows -/

abbrev laneSet (n : Fin 2) : Finset S512x4096.Idx := (halfR n).set

theorem mem_lane (n : Fin 2) (i : S512x4096.Idx) : i ∈ laneSet n ↔ (i 0).val / 256 = n.val := by
  have h0 : (i 0).val < 512 := (i 0).isLt
  have h1 : (i 1).val < 4096 := (i 1).isLt
  have hn := n.isLt
  rw [Rect.mem_set_unit, Fin.forall_fin_two]
  show ((256 * n.val ≤ (i 0).val ∧ (i 0).val < 256 * n.val + 256) ∧ 0 ≤ (i 1).val ∧ (i 1).val < 0 + 4096) ↔ (i 0).val / 256 = n.val
  omega
theorem lane_disjoint (n n' : Fin 2) (h : n ≠ n') : Disjoint (laneSet n) (laneSet n') :=
  Finset.disjoint_left.mpr fun i hi hi' => h (Fin.ext (((mem_lane n i).mp hi).symm.trans ((mem_lane n' i).mp hi')))
theorem lane_cover : Finset.univ.biUnion laneSet = Finset.univ := Finset.eq_univ_iff_forall.mpr fun i => by
  have h0 : (i 0).val < 512 := (i 0).isLt
  exact Finset.mem_biUnion.mpr ⟨⟨(i 0).val / 256, by omega⟩, Finset.mem_univ _, (mem_lane _ i).mpr rfl⟩

theorem own_set (n : Fin 2) : (ownM n).view.set = laneSet n := View.set_slice_whole _ _

/-- The copied rows, lane by lane. -/
theorem own_lanes (c : Dev nD) (q : PosShare TreeShare) (f : (cc0_scratch0 : Ref sig .tc).ty.Contents (Elt F)) :
    ((c : Thread nD τ).loc cc0_scratch0 ↦{q} f : sProp 𝕄)
      = bigSep Finset.univ fun n => (ownM n).view.loc (c : Thread nD τ) ↦[(ownM n).view.set]{q} f := by
  rw [bigSep_congr (s := Finset.univ) fun n _ => by rw [own_set n]]
  exact pointsTo_blocks (ℓ := (c : Thread nD τ).loc cc0_scratch0) laneSet lane_disjoint lane_cover f

/-- A lane holding the device's rows is the rows held on that lane. -/
theorem own_held (c : Dev nD) (n : Fin 2) (q : PosShare TreeShare) :
    held c (ownM n) q (V m c n) = ((ownM n).view.loc (c : Thread nD τ) ↦[(ownM n).view.set]{q} (xstg m c) : sProp 𝕄) :=
  (pointsTo_rep (c : Thread nD τ) (ownM n) (xstg m c) q).symm

omit [FloatOps F] in
theorem share_split [FloatOps F] (c : Dev nD) (M : Memref sig .tc .vmem S256x4096 .fp8e5m2) (q : PosShare TreeShare) (X : S256x4096.Idx → Elt F .fp8e5m2) :
    held c M q X = iprop(held c M q.left X ∗ held c M q.right X) := by
  unfold held
  exact (pointsTo_share (PosShare.mem_left_op_right q)).1.antisymm (pointsTo_share (PosShare.mem_left_op_right q)).2

/-- A lane is the source shares of its two transfers and the share the own product reads. -/
theorem own_shares (c : Dev nD) (n : Fin 2) :
    held c (ownM n) fullShare (V m c n)
      = iprop((srcPiece m c (0, 0, n) ∗ srcPiece m c (1, 0, n)) ∗ held c (ownM n) fullShare.right (V m c n)) := by
  rw [share_split c (ownM n) fullShare, share_split c (ownM n) fullShare.left]
  unfold srcPiece
  dsimp only
  rw [org_zero_dst, org_zero_dst]
  rfl

/-- The own rows, read-shares of both lanes together. -/
theorem own_right (c : Dev nD) :
    (bigSep Finset.univ fun n => held c (ownM n) fullShare.right (V m c n)) = ((c : Thread nD τ).loc cc0_scratch0 ↦{fullShare.right} (xstg m c) : sProp 𝕄) := by
  rw [own_lanes, bigSep_congr (s := Finset.univ) fun n _ => own_held m c n fullShare.right]

/-! ## Slots of a landing buffer -/

theorem mem_slotR (l : Fin 4) (n : Fin 2) (i : S4x512x4096.Idx) : i ∈ (slotR l n).set ↔ (i 0).val = l.val ∧ (i 1).val / 256 = n.val := by
  have h0 : (i 0).val < 4 := (i 0).isLt
  have h1 : (i 1).val < 512 := (i 1).isLt
  have h2 : (i 2).val < 4096 := (i 2).isLt
  have hn := n.isLt
  have hl := l.isLt
  rw [Rect.mem_set_unit, Fin.forall_fin_succ, Fin.forall_fin_two]
  show ((l.val ≤ (i 0).val ∧ (i 0).val < l.val + 1) ∧ (256 * n.val ≤ (i 1).val ∧ (i 1).val < 256 * n.val + 256) ∧ 0 ≤ (i 2).val ∧ (i 2).val < 0 + 4096)
    ↔ (i 0).val = l.val ∧ (i 1).val / 256 = n.val
  omega

abbrev slotSet (s : Fin 2) (ln : Fin 4 × Fin 2) : Finset (stM s).view.ty.Idx := (slotM s ln.1 ln.2).view.set

theorem slot_set (s : Fin 2) (ln : Fin 4 × Fin 2) : slotSet s ln = (slotR ln.1 ln.2).set.map (stM s).view.emb := by
  show (slotM s ln.1 ln.2).view.set = _
  rw [View.set_reshape, View.set_slice]
theorem slot_disjoint (s : Fin 2) (a b : Fin 4 × Fin 2) (h : a ≠ b) : Disjoint (slotSet s a) (slotSet s b) := by
  rw [slot_set, slot_set, Finset.disjoint_map]
  refine Finset.disjoint_left.mpr fun i hi hi' => h ?_
  have h1 := (mem_slotR _ _ _).mp hi
  have h2 := (mem_slotR _ _ _).mp hi'
  exact Prod.ext (Fin.ext (h1.1.symm.trans h2.1)) (Fin.ext (h1.2.symm.trans h2.2))
theorem slot_cover (s : Fin 2) : Finset.univ.biUnion (slotSet s) = Finset.univ := Finset.eq_univ_iff_forall.mpr fun i => by
  obtain ⟨x, rfl⟩ : ∃ x, (stM s).view.emb x = i := by
    have h : i ∈ (stM s).view.set := by rw [(stM_isWhole s).set_eq_univ]; exact Finset.mem_univ _
    obtain ⟨x, -, hx⟩ := Finset.mem_map.mp h
    exact ⟨x, hx⟩
  have h1 : (x 1).val < 512 := (x 1).isLt
  refine Finset.mem_biUnion.mpr ⟨(x 0, ⟨(x 1).val / 256, by omega⟩), Finset.mem_univ _, ?_⟩
  rw [slot_set]
  exact Finset.mem_map_of_mem _ ((mem_slotR _ _ _).mpr ⟨rfl, rfl⟩)

/-- A landing buffer held at some contents, slot by slot; -/
theorem slots_split (c : Dev nD) (s : Fin 2) (f : Buf (Elt F) ((stM s).view.loc (c : Thread nD τ))) :
    ((stM s).view.loc (c : Thread nD τ) ↦{fullShare} f : sProp 𝕄) ⊢ bigSep Finset.univ fun ln : Fin 4 × Fin 2 => slotAny c (s, ln.1, ln.2) := by
  have h (ln : Fin 4 × Fin 2) : ((stM s).view.loc (c : Thread nD τ) ↦[slotSet s ln]{fullShare} f : sProp 𝕄) ⊢ slotAny c (s, ln.1, ln.2) := by
    unfold slotAny
    iintro H; iexists f; iexact H
  rw [pointsTo_blocks (ℓ := (stM s).view.loc (c : Thread nD τ)) (slotSet s) (slot_disjoint s) (slot_cover s) f]
  exact bigSep_mono fun ln _ => h ln
/-- and put together again. -/
theorem slots_join (c : Dev nD) (s : Fin 2) (f₀ : Buf (Elt F) ((stM s).view.loc (c : Thread nD τ))) :
    (bigSep Finset.univ fun ln : Fin 4 × Fin 2 => slotAny c (s, ln.1, ln.2)) ⊢ (iprop(∃ f, (stM s).view.loc (c : Thread nD τ) ↦{fullShare} f) : sProp 𝕄) :=
  pointsTo_blocks_join_exists (ℓ := (stM s).view.loc (c : Thread nD τ)) (slotSet s) (slot_disjoint s) (slot_cover s) f₀

end Cert.RingProof

end
-- ==== Proof.Entry.lean ====
/-
# The start of the kernel

The states the ring goes through, what a device starts and ends with, and the handshake: each device hands its landing
slots to the neighbour that sends into them, and waits until both of its own neighbours have done the same.
-/
module

public import proofs.«01_k».proof.Proof.Buffers

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

variable (m : (ℓ : Loc nD τ sig) → Buf (Elt F) ℓ)

/-! ## The states the ring goes through -/

/-- Lane `n` copied: its two source shares are held. -/
def give (n : Fin 2) (σ : St) : St := { σ with sr := Function.update (Function.update σ.sr (0, 0, n) true) (1, 0, n) true }

/-- Nothing done; the first lane sent; both lanes sent; everything done. -/
def σ₀ : St := ⟨fun _ => 0, fun _ => false, fun _ => false, false, fun _ => false, sends⟩
def σ₁ : St := ⟨fun t => if t.2.1 = 0 ∧ t.2.2 = 0 then 1 else 0, fun _ => false, fun _ => false, false, fun _ => false, sends.drop 2⟩
def σ₂ : St := ⟨fun t => if t.2.1 = 0 then 1 else 0, fun _ => false, fun _ => false, false, fun _ => false, sends.drop 4⟩
def σ₃ : St := ⟨fun t => if act t then 2 else 0, act, fun _ => true, true, act, []⟩

theorem exec₁ : execL (give 0 σ₀) ops₁ = some σ₁ := by decide +kernel
theorem exec₂ : execL (give 1 σ₁) ops₂ = some σ₂ := by decide +kernel
theorem exec₃ : execL { σ₂ with own := true } ops₃ = some σ₃ := by decide +kernel

/-! ## What a device starts and ends with -/

/-- The barrier's part: the credit of its two signals, its position, the right to signal both neighbours. -/
def bars (c : Dev nD) : sProp 𝕄 :=
  iprop(cred (tallyAt (barCell c) () 2) ∗ atPos ER (barCell c) 0 ∅ 0 ∗ dutyTok ER (barCell (src 0 c)) 0 0 ∗ dutyTok ER (barCell (src 1 c)) 0 1)
/-- The transfers' part. -/
def parts (c : Dev nD) : sProp 𝕄 :=
  iprop((bigSep Finset.univ fun d : Fin 2 × T => atPos ER (dmaCell c d) 0 ∅ 0)
    ∗ (bigSep Finset.univ fun t : T => dutyTok ER (dmaCell c (0, t)) 0 0)
    ∗ (bigSep Finset.univ fun t : T => dutyTok ER (dmaCell (dst t.1 c) (1, t)) 0 0)
    ∗ (bigSep Finset.univ fun t : T => if act t then cred (tallyAt (dmaCell c (1, t)) () N) else iprop(emp)))
def start (c : Dev nD) : sProp 𝕄 := iprop(known m ∗ bars c ∗ parts c)

/-- The kernel's own buffers, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))
/-- Every semaphore of the kernel at zero. -/
def quiet (c : Dev nD) : sProp 𝕄 :=
  iprop(semVal (barCell c) 0 ∗ bigSep Finset.univ fun d : Fin 2 × T => semVal (dmaCell c d) 0)

/-- The slots no transfer lands in. -/
def spare (c : Dev nD) : sProp 𝕄 := bigSep Finset.univ fun t : T => if act t then iprop(emp) else slotAny c t
/-- The semaphores of the transfers that do not happen. -/
def idle (c : Dev nD) : sProp 𝕄 := bigSep Finset.univ fun d : Fin 2 × T => if act d.2 then iprop(emp) else semVal (dmaCell c d) 0

omit [FloatOps F] in
theorem over_streams (X : T → sProp 𝕄) : bigSep Finset.univ X
    = iprop((bigSep Finset.univ fun ln : Fin 4 × Fin 2 => X (0, ln)) ∗ bigSep Finset.univ fun ln : Fin 4 × Fin 2 => X (1, ln)) := by
  rw [bigSep_univ_prod, bigSep_univ_two]
omit [FloatOps F] in
theorem over_roles (X : Fin 2 × T → sProp 𝕄) : bigSep Finset.univ X
    = iprop((bigSep Finset.univ fun t : T => X (0, t)) ∗ bigSep Finset.univ fun t : T => X (1, t)) := by
  rw [bigSep_univ_prod, bigSep_univ_two]

/-! ## The handshake -/

/-- The slots of a stream: those handed to the device before, and the rest. -/
theorem slots_deal (c : Dev nD) (s : Fin 2) :
    (bigSep Finset.univ fun ln : Fin 4 × Fin 2 => slotAny (F := F) c (s, ln))
      ⊢ iprop(barPay (src s c) s ∗ bigSep Finset.univ fun ln : Fin 4 × Fin 2 => if act (s, ln) then iprop(emp) else slotAny c (s, ln)) := by
  unfold barPay
  rw [dst_src, ← bigSep_sep']
  refine bigSep_mono fun ln _ => ?_
  cases h : act (s, ln)
  · exact emp_sep.2
  · exact sep_emp.2

theorem wp_handshake (c : Dev nD) (W : Waits sig Unit) {k : PUnit.{1} → P F} {Q : PUnit.{1} → sProp 𝕄} :
    iprop(known m ∗ bars c ∗ owes (c : Thread nD τ) (O₀ c) W
        ∗ (bigSep Finset.univ fun ln : Fin 4 × Fin 2 => slotAny (F := F) c (0, ln)) ∗ (bigSep Finset.univ fun ln : Fin 4 × Fin 2 => slotAny (F := F) c (1, ln))
        ∗ (((∃ W, owes (c : Thread nD τ) (owedL c sends) W) ∗ semVal (barCell c) 0 ∗ (barPay c 0 ∗ barPay c 1) ∗ spare c)
            -∗ wp frame (wpE (defs₀ (F := F)) 𝒱₀ (c : Thread nD τ) none) Set.univ (k ⟨⟩) Q))
      ⊢ wp frame (wpE (defs₀ (F := F)) 𝒱₀ (c : Thread nD τ) none) Set.univ
          (.op (.semSignal (⟨k0_dev1 c, k0_dev1_lt c⟩, .tc) barS (1#32).toInt) fun _ =>
            .op (.semSignal (⟨k0_dev2 c, k0_dev2_lt c⟩, .tc) barS (1#32).toInt) fun _ => .op (.semWait barS (2#32).toInt) k) Q := by
  unfold bars
  iintro ⟨#HK, ⟨HcB, HatB, Ht0, Ht1⟩, HO, Hs0, Hs1, Hk⟩
  ihave HI := (known_inv m (c, .inl ())) $$ HK
  ihave HI0 := (known_inv m (src 0 c, .inl ())) $$ HK
  ihave HI1 := (known_inv m (src 1 c, .inl ())) $$ HK
  icases HI with ⟨%κ, #HI⟩
  icases HI0 with ⟨%κ₀, #HI0⟩
  icases HI1 with ⟨%κ₁, #HI1⟩
  ihave #HR0 := (known_reached m (src 0 c, .inl ())) $$ HK
  ihave #HR1 := (known_reached m (src 1 c, .inl ())) $$ HK
  ihave Hs0 := (slots_deal c 0) $$ Hs0
  ihave Hs1 := (slots_deal c 1) $$ Hs1
  icases Hs0 with ⟨Hp0, Hr0⟩
  icases Hs1 with ⟨Hp1, Hr1⟩
  simp only [dev1_eq c, dev2_eq c]
  iapply (Rounds.wp_signal 𝒱₀ ER (rd m) (c : Thread nD τ) none (dst := (src 0 c : Thread nD τ)) (κ := κ₀)
      (d := 0) (by rw [duties_bar]; exact Finset.mem_univ _) (by rfl) () (O₁ c) rfl) $$ [HO Ht0 Hp0]
  · isplitr; · iexact HI0
    isplitl [HO]; · iexact HO
    isplitl [Ht0]; · iexact Ht0
    isplitl [Hp0]; · iapply (Entails.of_eq (payload_bar m (src 0 c) 0).symm); iexact Hp0
    iexact HR0
  iintro HO
  iapply (Rounds.wp_signal 𝒱₀ ER (rd m) (c : Thread nD τ) none (dst := (src 1 c : Thread nD τ)) (κ := κ₁)
      (d := 1) (by rw [duties_bar]; exact Finset.mem_univ _) (by rfl) () (owedL c sends) rfl) $$ [HO Ht1 Hp1]
  · isplitr; · iexact HI1
    isplitl [HO]; · iexact HO
    isplitl [Ht1]; · iexact Ht1
    isplitl [Hp1]; · iapply (Entails.of_eq (payload_bar m (src 1 c) 1).symm); iexact Hp1
    iexact HR1
  iintro HO
  iapply (Rounds.wp_wait_rest_token 𝒱₀ ER (rd m) (c : Thread nD τ) none (κ := κ)
      (wpE_semWait_eq 𝒱₀ (c : Thread nD τ) none Set.univ) (Set.mem_univ _) () (O := owedL c sends) (W := W) (R := 0) (m := 0) (T := ∅)
      (by rw [expect_bar]; decide)) $$ [HcB HO HatB]
  · isplitr; · iexact HI
    isplitl [HcB]; · iexact HcB
    isplitl [HO]; · iexact HO
    isplitr; · iapply (mayWait_of c (.reg barS) sends (by decide)); iapply (known_levels m); iexact HK
    iexact HatB
  iintro ⟨HO, HatB, -, Hpay⟩
  ihave Hp := (Entails.of_eq (rest_bar m c)) $$ Hpay
  imod (Rounds.cell_close ER (rd m) (Set.mem_univ κ) (fun h => h) (R := 0 + 1) (duties_later m (barCell c))) $$ [HatB] with HzB
  · isplitr; · iexact HI
    iexact HatB
  iapply Hk
  isplitl [HO]; · iexists _; iexact HO
  isplitl [HzB]; · iexact HzB
  isplitl [Hp]; · iexact Hp
  unfold spare
  iapply (Entails.of_eq (over_streams (F := F) (fun t : T => if act t then iprop(emp) else slotAny c t)).symm)
  isplitl [Hr0] <;> iassumption

/-! ## The ring's parts at the start -/

/-- With the neighbours' slots every transfer is ready; the cells of those that do not happen are left over. -/
theorem ring_start (c : Dev nD) :
    iprop((barPay c 0 ∗ barPay c 1) ∗ parts (F := F) c)
      ⊢ iprop((bigSep Finset.univ fun t => sdAt (F := F) c t 0) ∗ (bigSep Finset.univ fun t => rvAt m c t false)
          ∗ bigSep Finset.univ fun d : Fin 2 × T => if act d.2 then iprop(emp) else atPos ER (dmaCell c d) 0 ∅ 0) := by
  have hs : iprop(barPay (F := F) c 0 ∗ barPay c 1) = bigSep Finset.univ fun t : T => if act t then slotAny (dst t.1 c) t else iprop(emp) :=
    (over_streams (F := F) fun t : T => if act t then slotAny (dst t.1 c) t else iprop(emp)).symm
  have h0 (t : T) : iprop((if act t then slotAny (F := F) (dst t.1 c) t else iprop(emp)) ∗ dutyTok ER (dmaCell c (0, t)) 0 0
        ∗ dutyTok ER (dmaCell (dst t.1 c) (1, t)) 0 0 ∗ atPos ER (dmaCell c (0, t)) 0 ∅ 0)
      ⊢ iprop(sdAt c t 0 ∗ if act t then iprop(emp) else atPos ER (dmaCell c (0, t)) 0 ∅ 0) := by
    unfold sdAt
    by_cases h : act t = true
    case neg =>
      simp only [if_neg h]
      iintro ⟨-, -, -, H⟩
      isplitr; · iempintro
      iexact H
    case pos =>
      simp only [if_pos h]
      iintro H
      isplitl [H]; · iexact H
      iempintro
  have h1 (t : T) : iprop((if act t then cred (tallyAt (dmaCell c (1, t)) () N) else iprop(emp)) ∗ atPos ER (dmaCell c (1, t)) 0 ∅ 0)
      ⊢ iprop(rvAt m c t false ∗ if act t then iprop(emp) else atPos ER (dmaCell c (1, t)) 0 ∅ 0) := by
    unfold rvAt
    by_cases h : act t = true
    case neg =>
      simp only [if_neg h]
      iintro ⟨-, H⟩
      isplitr; · iempintro
      iexact H
    case pos =>
      simp only [if_pos h]
      iintro H
      isplitl [H]; · iexact H
      iempintro
  have H0 := bigSep_mono (s := Finset.univ) fun t _ => h0 t
  have H1 := bigSep_mono (s := Finset.univ) fun t _ => h1 t
  simp only [bigSep_sep'] at H0 H1
  unfold parts
  rw [hs, over_roles, over_roles]
  iintro ⟨Hs, ⟨Ha0, Ha1⟩, Ht0, Ht1, Hc⟩
  ihave H0 := (show (_ : sProp 𝕄) ⊢ _ from H0) $$ [Hs Ht0 Ht1 Ha0]
  · isplitl [Hs]; · iexact Hs
    isplitl [Ht0]; · iexact Ht0
    isplitl [Ht1]; · iexact Ht1
    iexact Ha0
  ihave H1 := (show (_ : sProp 𝕄) ⊢ _ from H1) $$ [Hc Ha1]
  · isplitl [Hc]; · iexact Hc
    iexact Ha1
  icases H0 with ⟨H0, Hi0⟩
  icases H1 with ⟨H1, Hi1⟩
  isplitl [H0]; · iexact H0
  isplitl [H1]; · iexact H1
  isplitl [Hi0] <;> iassumption

/-- The cells of the transfers that do not happen close at once. -/
theorem idle_close (c : Dev nD) :
    iprop(known m ∗ bigSep Finset.univ fun d : Fin 2 × T => if act d.2 then iprop(emp) else atPos ER (dmaCell c d) 0 ∅ 0)
      ⊢ (|={Set.univ}=> idle c : sProp 𝕄) := by
  have h (d : Fin 2 × T) : iprop(known m ∗ if act d.2 then iprop(emp) else atPos ER (dmaCell c d) 0 ∅ 0)
      ⊢ (|={Set.univ}=> (if act d.2 then iprop(emp) else semVal (dmaCell c d) 0) : sProp 𝕄) := by
    by_cases h : act d.2 = true
    case pos => simp only [if_pos h]; iintro -; imodintro; iempintro
    case neg =>
      have ha : act d.2 = false := Bool.eq_false_iff.mpr h
      simp only [if_neg h]
      iintro ⟨#HK, H⟩
      ihave HI := (known_inv m (c, .inr d)) $$ HK
      icases HI with ⟨%κ, #HI⟩
      iapply (Rounds.cell_close ER (rd m) (Set.mem_univ κ) (fun h => h) (R := 0) (duties_idle m c d ha))
      isplitr; · iexact HI
      iexact H
  unfold idle
  exact (bigSep_with_persistent fun d _ => h d).trans (bigSep_fupd _ _)

end Cert.RingProof

end
-- ==== Proof.Local.lean ====
/-
# The local copies and the own product

The steps of the body that involve no other device: the device's rows copied lane by lane, its columns of `w` copied, and
the product of the two stored.
-/
module

public import proofs.«01_k».proof.Proof.Entry

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

variable (m : (ℓ : Loc nD τ sig) → Buf (Elt F) ℓ)

/-- A lane's two source shares, handed to the ring. -/
theorem give_inv (c : Dev nD) (n : Fin 2) (σ : St) (h0 : σ.sr (0, 0, n) = false) (h1 : σ.sr (1, 0, n) = false) :
    iprop(Inv m c σ ∗ srcPiece m c (0, 0, n) ∗ srcPiece m c (1, 0, n)) ⊢ Inv m c (give n σ) := by
  unfold Inv give
  dsimp only
  iintro ⟨⟨HO, HSD, HRV, HSR, HOut⟩, Hs0, Hs1⟩
  isplitl [HO]; · iexact HO
  isplitl [HSD]; · iexact HSD
  isplitl [HRV]; · iexact HRV
  isplitr [HOut]
  · ihave HSR := (turn (srAt m c) σ.sr (0, 0, n) false true h0) $$ HSR
    icases HSR with ⟨-, HSR⟩
    ihave HSR := HSR $$ [Hs0]
    · iapply (Entails.of_eq (srAt_true m c _).symm); iexact Hs0
    ihave HSR := (turn (srAt m c) (Function.update σ.sr (0, 0, n) true) (1, 0, n) false true
      ((Function.update_of_ne (by simp) _ _).trans h1)) $$ HSR
    icases HSR with ⟨-, HSR⟩
    iapply HSR
    iapply (Entails.of_eq (srAt_true m c _).symm); iexact Hs1
  · iexact HOut

omit [FloatOps F] in
theorem pay2_eq [FloatOps F] (v : S256x4096.Idx → Elt F .fp8e5m2) : k0_pay2 v = v := by
  unfold k0_pay2; simp only [shapeCast_self]
omit [FloatOps F] in
theorem pay4_eq [FloatOps F] (v : S4096x256.Idx → Elt F .fp8e5m2) : k0_pay4 v = v := by
  unfold k0_pay4; simp only [shapeCast_self]

/-- A lane's copy holds the device's rows. -/
theorem copied (c : Dev nD) (n : Fin 2) (f : (cc0_scratch0 : Ref sig .tc).ty.Contents (Elt F)) :
    ((ownM n).view.loc (c : Thread nD τ) ↦[(ownM n).view.set]{fullShare}
        ((ownWM.access (halfR n) : View sig .tc _ _ _).write (Elt F) f (k0_pay2 ((xM : Memref sig .tc .vmem S512x4096 .fp8e5m2).view.readAt (Elt F) (halfR n).toLoadRect (xstg m c))) Finset.univ) : sProp 𝕄)
      = held c (ownM n) fullShare (V m c n) := by
  rw [pay2_eq]
  refine (pointsTo_rep (c : Thread nD τ) (ownM n) _ fullShare).trans ?_
  unfold held
  rw [show (ownM n).view.read (Elt F) ((ownWM.access (halfR n) : View sig .tc _ _ _).write (Elt F) f
      ((xM : Memref sig .tc .vmem S512x4096 .fp8e5m2).view.readAt (Elt F) (halfR n).toLoadRect (xstg m c)) Finset.univ) = V m c n from
    View.read_write_univ (v := (ownM n).view) f _]

/-- A lane's copy. -/
theorem wp_copyX (c : Dev nD) (n : Fin 2) (σ : St) (h0 : σ.sr (0, 0, n) = false) (h1 : σ.sr (1, 0, n) = false)
    (f : (cc0_scratch0 : Ref sig .tc).ty.Contents (Elt F)) (k : PUnit.{1} → P F) (Q : PUnit.{1} → sProp 𝕄) :
    iprop(((ownM n).view.loc (c : Thread nD τ) ↦[(ownM n).view.set]{fullShare} f) ∗ ((c : Thread nD τ).loc cc0_stg0_0 ↦{fullShare} xstg m c) ∗ Inv m c σ
        ∗ ((held c (ownM n) fullShare.right (V m c n) ∗ ((c : Thread nD τ).loc cc0_stg0_0 ↦{fullShare} xstg m c) ∗ Inv m c (give n σ))
            -∗ wp frame (wpE (defs₀ (F := F)) 𝒱₀ (c : Thread nD τ) none) Set.univ (k ⟨⟩) Q))
      ⊢ wp frame (wpE (defs₀ (F := F)) 𝒱₀ (c : Thread nD τ) none) Set.univ (copyXP n k) Q := by
  unfold copyXP
  iintro ⟨Hown, Hx, HI, Hk⟩
  iapply (wp_load 𝒱₀ (c : Thread nD τ) none Set.univ (m := xM) (Finset.subset_univ _)) $$ Hx; iintro Hx
  iapply (wp_load 𝒱₀ (c : Thread nD τ) none Set.univ (m := ownWM) (r := (halfR n).toLoadRect) (S := (ownM n).view.set) (f := f)
    (by rw [View.set_slice]; exact Finset.Subset.refl _)) $$ Hown; iintro Hown
  iapply (wp_store 𝒱₀ (c : Thread nD τ) none Set.univ (m := ownWM) (r := halfR n) (Mk := Finset.univ) (S := (ownM n).view.set) (f := f)
    (Finset.Subset.refl _)) $$ Hown; iintro Hown
  ihave Hown := (Entails.of_eq (copied m c n f)) $$ Hown
  ihave Hown := (Entails.of_eq (own_shares m c n)) $$ Hown
  icases Hown with ⟨Hsrc, Hright⟩
  iapply Hk
  isplitl [Hright]; · iexact Hright
  isplitl [Hx]; · iexact Hx
  iapply (give_inv m c n σ h0 h1)
  isplitl [HI] <;> iassumption

theorem read_w (f : (cc0_stg1_0 : Ref sig .tc).ty.Contents (Elt F)) : (wM : Memref sig .tc .vmem S4096x256 .fp8e5m2).view.readAt (Elt F) wR.toLoadRect f = f :=
  Memref.readAt_unit_zero (Elt F) cc0_stg1_0 hz _ f
theorem read_own (f : (cc0_scratch0 : Ref sig .tc).ty.Contents (Elt F)) : (ownWM : Memref sig .tc .vmem S512x4096 .fp8e5m2).view.readAt (Elt F) xR.toLoadRect f = f :=
  Memref.readAt_unit_zero (Elt F) cc0_scratch0 hz _ f
theorem write_w8 (f w : (cc0_scratch3 : Ref sig .tc).ty.Contents (Elt F)) :
    ((w8M : Memref sig .tc .vmem S4096x256 .fp8e5m2).access wR : View sig .tc _ _ _).write (Elt F) f w Finset.univ = w :=
  Memref.write_access_unit_zero_univ (Elt F) cc0_scratch3 hz _ f w

/-- The copy of `w` and the own product. -/
theorem wp_own (c : Dev nD) (σ : St) (hσ : σ.own = false) (k : PUnit.{1} → P F) (Q : PUnit.{1} → sProp 𝕄) :
    iprop(((c : Thread nD τ).loc cc0_stg1_0 ↦{fullShare} wstg m c) ∗ ((c : Thread nD τ).loc cc0_scratch0 ↦{fullShare.right} xstg m c) ∗ Inv m c σ
        ∗ ((((c : Thread nD τ).loc cc0_stg1_0 ↦{fullShare} wstg m c) ∗ ((c : Thread nD τ).loc cc0_scratch0 ↦{fullShare.right} xstg m c) ∗ Inv m c { σ with own := true })
            -∗ wp frame (wpE (defs₀ (F := F)) 𝒱₀ (c : Thread nD τ) none) Set.univ (k ⟨⟩) Q))
      ⊢ wp frame (wpE (defs₀ (F := F)) 𝒱₀ (c : Thread nD τ) none) Set.univ (copyWP fun _ => ownP c (sc m c) k) Q := by
  unfold copyWP ownP Inv outAt
  dsimp only
  rw [hσ]
  iintro ⟨Hw, Hown, ⟨HO, HSD, HRV, HSR, ⟨%g, %f, %hg, Hout, Hw8⟩⟩, Hk⟩
  iapply (wp_load 𝒱₀ (c : Thread nD τ) none Set.univ (m := wM) (Finset.subset_univ _)) $$ Hw; iintro Hw
  rw [read_w, pay4_eq]
  iapply (wp_load 𝒱₀ (c : Thread nD τ) none Set.univ (m := w8M) (Finset.subset_univ _)) $$ Hw8; iintro Hw8
  iapply (wp_store 𝒱₀ (c : Thread nD τ) none Set.univ (m := w8M) (r := wR) (Mk := Finset.univ) (Finset.subset_univ _)) $$ Hw8; iintro Hw8
  rw [write_w8]
  iapply (wp_load 𝒱₀ (c : Thread nD τ) none Set.univ (m := ownWM) (Finset.subset_univ _)) $$ Hown; iintro Hown
  rw [read_own]
  iapply (wp_load 𝒱₀ (c : Thread nD τ) none Set.univ (m := w8M) (Finset.subset_univ _)) $$ Hw8; iintro Hw8
  rw [read_w8]
  iapply (wp_load 𝒱₀ (c : Thread nD τ) none Set.univ (m := oM) (Finset.subset_univ _)) $$ Hout; iintro Hout
  iapply (wp_store 𝒱₀ (c : Thread nD τ) none Set.univ (m := oM) (r := outOwnR c) (Mk := Finset.univ) (Finset.subset_univ _)) $$ Hout; iintro Hout
  iapply Hk
  isplitl [Hw]; · iexact Hw
  isplitl [Hown]; · iexact Hown
  isplitl [HO]; · iexact HO
  isplitl [HSD]; · iexact HSD
  isplitl [HRV]; · iexact HRV
  isplitl [HSR]; · iexact HSR
  iexists _, (wstg m c)
  isplitr
  · ipureintro
    exact ⟨outOk_own m hg.1, fun _ => rfl⟩
  isplitl [Hout]; · iexact Hout
  iexact Hw8

end Cert.RingProof

end
-- ==== Proof.Exit.lean ====
/-
# The end of the kernel

With every transfer landed and departed, what a device holds is its output, its own buffers whole again, and every
semaphore at zero.
-/
module

public import proofs.«01_k».proof.Proof.Local

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

variable (m : (ℓ : Loc nD τ sig) → Buf (Elt F) ℓ)

/-- The transfer that brings a transfer's source, and the lane a last slot would be sent on from: a permutation. -/
def nextE : T ≃ T where
  toFun := nextT
  invFun t := (t.1, ⟨(t.2.1.val + 3) % 4, Nat.mod_lt _ (by decide)⟩, t.2.2)
  left_inv := by decide
  right_inv := by decide

theorem held_any (c : Dev nD) (t : T) (X : S256x4096.Idx → Elt F .fp8e5m2) :
    held c (slotM t.1 t.2.1 t.2.2) fullShare X ⊢ slotAny (F := F) c t := by
  unfold held slotAny
  iintro H; iexists _; iexact H

theorem landed_any (c : Dev nD) (t : T) : landed m c t ⊢ slotAny c t := by
  unfold landed
  exact held_any c t _

/-- One slot at the end: whole again, its receive cell at zero; the shares of the copied rows go by with the last slots. -/
theorem slot_end (c : Dev nD) (t : T) :
    iprop(rvAt m c t (act t) ∗ srAt m c (nextT t) true ∗ (if act t then iprop(emp) else slotAny c t))
      ⊢ iprop(slotAny c t ∗ (if t.2.1 = 3 then srcPiece m c (nextT t) else iprop(emp)) ∗ (if act t then semVal (dmaCell c (1, t)) 0 else iprop(emp))) := by
  obtain ⟨s, l, n⟩ := t
  by_cases ha : act (s, l, n) = true
  · simp only [if_pos ha]
    rw [ha, rvAt_true m ha, srAt_true]
    by_cases hl : l = 3
    · subst hl
      simp only [if_true]
      iintro ⟨⟨Hz, Hh⟩, Hs, -⟩
      isplitl [Hh]; · iapply (held_any c (s, 3, n) (V m (org s 3 c) n)); iexact Hh
      isplitl [Hs]; · iexact Hs
      iexact Hz
    · simp only [if_neg hl]
      iintro ⟨⟨Hz, Hh⟩, Hs, -⟩
      isplitl [Hh Hs]
      · ihave H := (Entails.of_eq (landed_split m c s l n hl).symm) $$ [Hs Hh]
        · isplitl [Hs] <;> iassumption
        iapply (landed_any m c (s, l, n)); iexact H
      isplitr; · iempintro
      iexact Hz
  · have hl : l = 3 := by
      by_contra hl
      exact ha (by unfold act; exact decide_eq_true (Or.inl hl))
    subst hl
    simp only [if_neg ha, if_true]
    rw [srAt_true]
    iintro ⟨-, Hs, Hf⟩
    isplitl [Hf]; · iexact Hf
    isplitl [Hs]; · iexact Hs
    iempintro

/-- The lanes of the copied rows among the transfers. -/
def lastE : Fin 2 × Fin 2 ↪ T := ⟨fun sn => (sn.1, 3, sn.2), by decide⟩

theorem lanes_end (c : Dev nD) :
    (bigSep Finset.univ fun t : T => if t.2.1 = 3 then srcPiece m c (nextT t) else iprop(emp))
      ⊢ iprop((srcPiece m c (0, 0, 0) ∗ srcPiece m c (0, 0, 1)) ∗ srcPiece m c (1, 0, 0) ∗ srcPiece m c (1, 0, 1)) := by
  have h := bigSep_subset (Φ := fun t : T => (if t.2.1 = 3 then srcPiece m c (nextT t) else iprop(emp) : sProp 𝕄)) (Finset.subset_univ (Finset.univ.map lastE))
  refine (show (_ : sProp 𝕄) ⊢ _ from h).trans (Entails.of_eq ?_)
  rw [bigSep_map, bigSep_univ_prod, bigSep_univ_two, bigSep_univ_two, bigSep_univ_two]
  rfl

/-- The copied rows, whole again. -/
theorem own_end (c : Dev nD) :
    iprop(((srcPiece m c (0, 0, 0) ∗ srcPiece m c (0, 0, 1)) ∗ srcPiece m c (1, 0, 0) ∗ srcPiece m c (1, 0, 1))
        ∗ ((c : Thread nD τ).loc cc0_scratch0 ↦{fullShare.right} xstg m c))
      ⊢ ((c : Thread nD τ).loc cc0_scratch0 ↦{fullShare} xstg m c : sProp 𝕄) := by
  rw [← own_right, own_lanes, bigSep_univ_two, bigSep_univ_two, ← own_held, ← own_held, own_shares, own_shares]
  iintro ⟨⟨⟨H00, H01⟩, H10, H11⟩, Hr0, Hr1⟩
  isplitl [H00 H10 Hr0]
  · isplitl [H00 H10]
    · isplitl [H00] <;> iassumption
    iexact Hr0
  · isplitl [H01 H11]
    · isplitl [H01] <;> iassumption
    iexact Hr1

/-- The semaphores: those of the transfers, closed one by one, and those that were never used. -/
theorem sems_end (c : Dev nD) :
    iprop((bigSep Finset.univ fun t => sdAt (F := F) c t (if act t then 2 else 0))
        ∗ (bigSep Finset.univ fun t : T => if act t then semVal (dmaCell c (1, t)) 0 else iprop(emp)) ∗ idle c)
      ⊢ (bigSep Finset.univ fun d : Fin 2 × T => semVal (dmaCell c d) 0 : sProp 𝕄) := by
  have h0 (t : T) : iprop(sdAt (F := F) c t (if act t then 2 else 0) ∗ (if act t then iprop(emp) else semVal (dmaCell c (0, t)) 0)) ⊢ semVal (dmaCell c (0, t)) 0 := by
    by_cases ha : act t = true
    · simp only [if_pos ha]; rw [sdAt_departed ha]; exact Laws.sep_emp.1
    · simp only [if_neg ha]; iintro ⟨-, H⟩; iexact H
  have h1 (t : T) : iprop((if act t then semVal (dmaCell c (1, t)) 0 else iprop(emp)) ∗ (if act t then iprop(emp) else semVal (dmaCell c (1, t)) 0))
      ⊢ (semVal (dmaCell c (1, t)) 0 : sProp 𝕄) := by
    by_cases ha : act t = true
    · simp only [if_pos ha]; exact Laws.sep_emp.1
    · simp only [if_neg ha]; exact BIClass.emp_sep.1
  have H0 := bigSep_mono (s := Finset.univ) fun t _ => h0 t
  have H1 := bigSep_mono (s := Finset.univ) fun t _ => h1 t
  simp only [bigSep_sep'] at H0 H1
  unfold idle
  rw [over_roles, over_roles]
  iintro ⟨Hs, Hr, Hi0, Hi1⟩
  isplitl [Hs Hi0]
  · iapply (show (_ : sProp 𝕄) ⊢ _ from H0)
    isplitl [Hs]; · iexact Hs
    iexact Hi0
  · iapply (show (_ : sProp 𝕄) ⊢ _ from H1)
    isplitl [Hr]; · iexact Hr
    iexact Hi1

/-- Both landing buffers whole again. -/
theorem landing_end (c : Dev nD) :
    (bigSep Finset.univ fun t : T => slotAny (F := F) c t)
      ⊢ iprop((∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)) := by
  rw [over_streams]
  iintro ⟨H0, H1⟩
  isplitl [H0]
  · iapply (slots_join (F := F) c 0 (fun _ => Classical.arbitrary _)); iexact H0
  · iapply (slots_join (F := F) c 1 (fun _ => Classical.arbitrary _)); iexact H1

/-- What the ring leaves. -/
theorem ring_end (c : Dev nD) :
    iprop(Inv m c σ₃ ∗ idle c ∗ spare c ∗ semVal (barCell c) 0 ∗ ((c : Thread nD τ).loc cc0_scratch0 ↦{fullShare.right} xstg m c))
      ⊢ iprop((scratch c ∗ quiet c) ∗ (∃ W, owes (c : Thread nD τ) 0 W) ∗ ((c : Thread nD τ).loc cc0_stg4_0 ↦{fullShare} outC m c)) := by
  have hS := bigSep_mono (s := Finset.univ) fun t _ => slot_end m c t
  simp only [bigSep_sep'] at hS
  unfold Inv outAt σ₃
  dsimp only
  rw [bigSep_univ_equiv nextE (fun t => srAt m c t true)]
  unfold spare
  iintro ⟨⟨HO, HSD, HRV, HSR, ⟨%g, %f, %hg, Hout, Hw8⟩⟩, Hidle, Hsp, HzB, Hown⟩
  have hg := outOk_all m hg.1
  subst hg
  ihave HS := (show (_ : sProp 𝕄) ⊢ _ from hS) $$ [HRV HSR Hsp]
  · isplitl [HRV]; · iexact HRV
    isplitl [HSR]; · iexact HSR
    iexact Hsp
  icases HS with ⟨Hslots, Hsrc, Hz⟩
  ihave Hsrc := (lanes_end m c) $$ Hsrc
  ihave Hown := (own_end m c) $$ [Hsrc Hown]
  · isplitl [Hsrc] <;> iassumption
  ihave Hland := (landing_end (F := F) c) $$ Hslots
  icases Hland with ⟨Hl0, Hl1⟩
  ihave Hsem := (sems_end (F := F) c) $$ [HSD Hz Hidle]
  · isplitl [HSD]; · iexact HSD
    isplitl [Hz] <;> iassumption
  unfold scratch quiet
  isplitl [Hown Hl0 Hl1 Hw8 HzB Hsem]
  · isplitl [Hown Hl0 Hl1 Hw8]
    · isplitl [Hown]; · iexists _; iexact Hown
      isplitl [Hl0]; · iexact Hl0
      isplitl [Hl1]; · iexact Hl1
      iexists _; iexact Hw8
    isplitl [HzB] <;> iassumption
  isplitl [HO]; · iexact HO
  iexact Hout

end Cert.RingProof

end
-- ==== Proof.Body.lean ====
/-
# The body

The kernel on one device, from what the launch hands it to what it leaves: the handshake, the scales, the copies and
the products with the ring's steps between them, and the output.
-/
module

public import proofs.«01_k».proof.Proof.Exit
public import proofs.«01_k».proof.Proof.Gen.KernelIdeal.Launch
public import proofs.«01_k».proof.Proof.Gen.KernelIdeal.Points

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- After the handshake: the state the ring's steps start from, and the semaphores no transfer uses, closed. -/
theorem ring_enter (c : Dev nD) (g : OutC F) (f : (cc0_scratch3 : Ref sig .tc).ty.Contents (Elt F)) :
    iprop(known m ∗ (∃ W, owes (c : Thread nD τ) (owedL c sends) W) ∗ (barPay c 0 ∗ barPay c 1) ∗ parts c
        ∗ ((c : Thread nD τ).loc cc0_stg4_0 ↦{fullShare} g) ∗ ((c : Thread nD τ).loc cc0_scratch3 ↦{fullShare} f))
      ⊢ (|={Set.univ}=> iprop(Inv m c σ₀ ∗ idle c) : sProp 𝕄) := by
  iintro ⟨#HK, HO, Hbp, Hparts, Hout, Hw8⟩
  ihave H := (ring_start m c) $$ [Hbp Hparts]
  · isplitl [Hbp] <;> iassumption
  icases H with ⟨HSD, HRV, Hat⟩
  imod (idle_close m c) $$ [Hat] with Hidle
  · isplitr; · iexact HK
    iexact Hat
  imodintro
  isplitr [Hidle]
  · unfold Inv outAt σ₀
    dsimp only
    isplitl [HO]; · iexact HO
    isplitl [HSD]; · iexact HSD
    isplitl [HRV]; · iexact HRV
    isplitr
    · iapply (Entails.of_eq (bigSep_emp_const (Finset.univ : Finset T)).symm); iempintro
    iexists g; iexists f
    isplitr; · ipureintro; exact ⟨outOk_none m c g, fun h => nomatch h⟩
    isplitl [Hout] <;> iassumption
  · iexact Hidle

/-- The staged operands of the device. -/
def staged (c : Dev nD) : sProp 𝕄 :=
  iprop(((c : Thread nD τ).loc cc0_stg0_0 ↦{fullShare} xstg m c) ∗ ((c : Thread nD τ).loc cc0_stg1_0 ↦{fullShare} wstg m c)
    ∗ ((c : Thread nD τ).loc cc0_stg2_0 ↦{fullShare} sxstg m c) ∗ ((c : Thread nD τ).loc cc0_stg3_0 ↦{fullShare} swstg m c))

/-- The copies, the products and the ring's steps. -/
theorem wp_main (c : Dev nD) (f : (cc0_scratch0 : Ref sig .tc).ty.Contents (Elt F)) (Q : PUnit.{1} → sProp 𝕄) :
    iprop(known m ∗ Inv m c σ₀ ∗ ((c : Thread nD τ).loc cc0_scratch0 ↦{fullShare} f)
        ∗ ((c : Thread nD τ).loc cc0_stg0_0 ↦{fullShare} xstg m c) ∗ ((c : Thread nD τ).loc cc0_stg1_0 ↦{fullShare} wstg m c)
        ∗ ((((c : Thread nD τ).loc cc0_stg0_0 ↦{fullShare} xstg m c) ∗ ((c : Thread nD τ).loc cc0_stg1_0 ↦{fullShare} wstg m c)
            ∗ ((c : Thread nD τ).loc cc0_scratch0 ↦{fullShare.right} xstg m c) ∗ Inv m c σ₃) -∗ Q ⟨⟩))
      ⊢ wp frame (wpE (defs₀ (F := F)) 𝒱₀ (c : Thread nD τ) none) Set.univ (mainP c (sc m c)) Q := by
  unfold mainP
  rw [own_lanes, bigSep_univ_two]
  iintro ⟨#HK, HI, ⟨Hl0, Hl1⟩, Hx, Hw, Hk⟩
  iapply (wp_copyX m c 0 σ₀ rfl rfl f)
  isplitl [Hl0]; · iexact Hl0
  isplitl [Hx]; · iexact Hx
  isplitl [HI]; · iexact HI
  iintro ⟨Hr0, Hx, HI⟩
  iapply (run_ops m c _ _ ops₁ exec₁)
  isplitr; · iexact HK
  isplitl [HI]; · iexact HI
  iintro HI
  iapply (wp_copyX m c 1 σ₁ rfl rfl f)
  isplitl [Hl1]; · iexact Hl1
  isplitl [Hx]; · iexact Hx
  isplitl [HI]; · iexact HI
  iintro ⟨Hr1, Hx, HI⟩
  iapply (run_ops m c _ _ ops₂ exec₂)
  isplitr; · iexact HK
  isplitl [HI]; · iexact HI
  iintro HI
  ihave Hown := (Entails.of_eq ((bigSep_univ_two (fun n => held c (ownM n) fullShare.right (V m c n))).symm.trans (own_right m c))) $$ [Hr0 Hr1]
  · isplitl [Hr0] <;> iassumption
  iapply (wp_own m c σ₂ rfl)
  isplitl [Hw]; · iexact Hw
  isplitl [Hown]; · iexact Hown
  isplitl [HI]; · iexact HI
  iintro ⟨Hw, Hown, HI⟩
  iapply (run_ops m c _ _ ops₃ exec₃)
  isplitr; · iexact HK
  isplitl [HI]; · iexact HI
  iintro HI
  rw [wp_ret]; imodintro
  iapply Hk
  isplitl [Hx]; · iexact Hx
  isplitl [Hw]; · iexact Hw
  isplitl [Hown] <;> iassumption

/-- The body on device `c`. -/
theorem wp_body (c : Dev nD) (Q : PUnit.{1} → sProp 𝕄) :
    iprop((start m c ∗ scratch c) ∗ (∃ W, owes (c : Thread nD τ) (O₀ c) W) ∗ staged m c
        ∗ (∃ g : OutC F, (c : Thread nD τ).loc cc0_stg4_0 ↦{fullShare} g)
        ∗ (((scratch c ∗ quiet c) ∗ (∃ W, owes (c : Thread nD τ) 0 W) ∗ staged m c ∗ ((c : Thread nD τ).loc cc0_stg4_0 ↦{fullShare} outC m c)) -∗ Q ⟨⟩))
      ⊢ wp frame (wpE (defs₀ (F := F)) 𝒱₀ (c : Thread nD τ) none) Set.univ bodyP Q := by
  unfold bodyP staged start
  rw [wp_deviceId]
  unfold scratch
  iintro ⟨⟨⟨#HK, Hbars, Hparts⟩, ⟨%f0, Hs0⟩, ⟨%f1, Hs1⟩, ⟨%f2, Hs2⟩, ⟨%f3, Hs3⟩⟩, ⟨%W, HO⟩, ⟨Hx, Hw, Hsx, Hsw⟩, ⟨%g, Hout⟩, Hk⟩
  ihave Hl0 := (slots_split (F := F) c 0 f1) $$ Hs1
  ihave Hl1 := (slots_split (F := F) c 1 f2) $$ Hs2
  iapply (wp_handshake m c W)
  isplitr; · iexact HK
  isplitl [Hbars]; · iexact Hbars
  isplitl [HO]; · iexact HO
  isplitl [Hl0]; · iexact Hl0
  isplitl [Hl1]; · iexact Hl1
  iintro ⟨HO, HzB, Hbp, Hsp⟩
  iapply (wp_smemLoadElt 𝒱₀ (c : Thread nD τ) none Set.univ (m := sxM) (r := sR) (Finset.subset_univ _)) $$ Hsx; iintro Hsx
  iapply (wp_smemLoadElt 𝒱₀ (c : Thread nD τ) none Set.univ (m := swM) (r := sR) (Finset.subset_univ _)) $$ Hsw; iintro Hsw
  imod (ring_enter m c g f3) $$ [HO Hbp Hparts Hout Hs3] with ⟨HI, Hidle⟩
  · isplitr; · iexact HK
    isplitl [HO]; · iexact HO
    isplitl [Hbp]; · iexact Hbp
    isplitl [Hparts]; · iexact Hparts
    isplitl [Hout] <;> iassumption
  iapply (wp_main m c f0 Q)
  isplitr; · iexact HK
  isplitl [HI]; · iexact HI
  isplitl [Hs0]; · iexact Hs0
  isplitl [Hx]; · iexact Hx
  isplitl [Hw]; · iexact Hw
  iintro ⟨Hx, Hw, Hown, HI⟩
  ihave H := (ring_end m c) $$ [HI Hidle Hsp HzB Hown]
  · isplitl [HI]; · iexact HI
    isplitl [Hidle]; · iexact Hidle
    isplitl [Hsp]; · iexact Hsp
    isplitl [HzB] <;> iassumption
  icases H with ⟨Hsq, HO, Hout⟩
  iapply Hk
  isplitl [Hsq]; · unfold scratch; iexact Hsq
  isplitl [HO]; · iexact HO
  isplitl [Hx Hw Hsx Hsw]
  · isplitl [Hx]; · iexact Hx
    isplitl [Hw]; · iexact Hw
    isplitl [Hsx] <;> iassumption
  iexact Hout

/-! ## The launch's data and the body's obligation -/

section Data

variable (ρ : Dev nD → PrngReg)

def s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => sxstg m c
    | ⟨3, _⟩ => swstg m c
    | ⟨4, _⟩ => outC m c
  Φ t := match t with
    | ⟨0, _⟩ => iprop(start m c ∗ scratch c)
    | ⟨_ + 1, _⟩ => iprop(scratch c ∗ quiet c)
  q _ := fullShare
  owed t := match t with
    | ⟨0, _⟩ => O₀ c
    | ⟨_ + 1, _⟩ => 0

/-- Every operand is fetched. -/
theorem fetched (w : Fin cfg0.W) (hw : w ≠ (4 : Fin 5)) (t : Fin cfg0.N) : (cfg0.win w).fetch t = true := by
  rw [show t = t0_0 from fin_N0 t]
  fin_cases w
  · rfl
  · rfl
  · rfl
  · rfl
  · exact absurd rfl hw

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((start m c ∗ scratch c) ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop((scratch c ∗ quiet c) ∗ (dats m ρ 0 c).owesAt () t0_0.succ
    ∗ stg c cc0_stg0_0 (xstg m c) ∗ stg c cc0_stg1_0 (wstg m c) ∗ stg c cc0_stg2_0 (sxstg m c) ∗ stg c cc0_stg3_0 (swstg m c)
    ∗ stg c cc0_stg4_0 (outC m c))

theorem sound_body (c : Dev nD) :
    bodyPre m ρ c ⊢ wp frame (wpE (defs₀ (F := F)) 𝒱₀ (c : Thread nD τ) none) Set.univ bodyP (fun _ => bodyPost m ρ c) := by
  unfold bodyPre
  iintro ⟨Hst, Ho, ⟨%d0, %g0, %hg0, Hx⟩, ⟨%d1, %g1, %hg1, Hw⟩, ⟨%d2, %g2, %hg2, Hsx⟩, ⟨%d3, %g3, %hg3, Hsw⟩, ⟨%d4, %g4, %hg4, Hout⟩⟩
  have h0 : g0 = xstg m c := by rw [hg0]; unfold Dat.before; rw [if_pos (fetched (0 : Fin 5) (by decide) t0_0)]; rfl
  have h1 : g1 = wstg m c := by rw [hg1]; unfold Dat.before; rw [if_pos (fetched (1 : Fin 5) (by decide) t0_0)]; rfl
  have h2 : g2 = sxstg m c := by rw [hg2]; unfold Dat.before; rw [if_pos (fetched (2 : Fin 5) (by decide) t0_0)]; rfl
  have h3 : g3 = swstg m c := by rw [hg3]; unfold Dat.before; rw [if_pos (fetched (3 : Fin 5) (by decide) t0_0)]; rfl
  subst h0 h1 h2 h3
  unfold Dat.owesAt Pipeline.owesWithin
  icases Ho with ⟨%W, %hW, HO⟩
  rw [show (dats m ρ 0 c).owed t0_0.castSucc = O₀ c from rfl]
  iapply (wp_body m c)
  isplitl [Hst]; · iexact Hst
  isplitl [HO]; · iexists W; iexact HO
  isplitl [Hx Hw Hsx Hsw]
  · unfold staged
    isplitl [Hx]; · iexact Hx
    isplitl [Hw]; · iexact Hw
    isplitl [Hsx] <;> iassumption
  isplitl [Hout]; · iexists g4; iexact Hout
  unfold staged
  iintro ⟨Hsq, ⟨%W', HO⟩, ⟨Hx, Hw, Hsx, Hsw⟩, Hout⟩
  unfold bodyPost Dat.owesAt Pipeline.owesWithin
  rw [show (dats m ρ 0 c).owed t0_0.succ = 0 from rfl]
  isplitl [Hsq]; · iexact Hsq
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

/-- The point's body is the program read above. -/
theorem bodyAt_eq : (bodyAt0 t0_0 : P F) = bodyP := body_eq

set_option maxRecDepth 65536 in
/-- The body's obligation at the launch. -/
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = _ from bigSep_W0, show ∀ Φ : Fin cfg0.W → sProp 𝕄, bigSep Finset.univ Φ = _ from bigSep_W0]
  simp only [owns_whole_eq]
  show bodyPre m ρ c ⊢ wp frame (wpE (defs₀ (F := F)) 𝒱₀ (c : Thread nD τ) none) Set.univ (bodyAt0 t0_0) (fun _ => bodyPost m ρ c)
  rw [bodyAt_eq]
  exact sound_body m ρ c

end Data

end Cert.RingProof

end
-- ==== Proof.Launch.lean ====
/-
# The launch

What the launch hands every device — the cells' invariants, the tokens dealt to the devices that pay with them, the
credits — and the run of the whole mesh: every execution ends, every result array at `outC`, the arguments unchanged
and every semaphore at zero.
-/
module

public import proofs.«01_k».proof.Proof.Body
public import Idealize.ShloMosaic.Lib.Pipeline.CollectiveSegs

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cells and tokens -/

/-- The kernel's own semaphores. -/
abbrev osem : Fin 2 × T → SemLoc sig := fun d => .dma (dmaQ d)
theorem ownSemFacts : Pipeline.OwnSemFacts cfg0.spec osem := by decide +kernel

theorem bar_inj {a b : Dev nD} (h : barCell a = barCell b) : a = b :=
  Fin.ext (congrArg (fun g : GSem nD τ sig => g.1.1.val) h)
theorem dma_inj {a b : Dev nD} {d e : Fin 2 × T} (h : dmaCell a d = dmaCell b e) : a = b ∧ d = e :=
  ⟨Fin.ext (congrArg (fun g : GSem nD τ sig => g.1.1.val) h), dmaQ_injective (SemLoc.dma.inj (congrArg Prod.snd h))⟩

theorem dma_ne_bar {a b : Dev nD} {d : Fin 2 × T} : dmaCell a d ≠ barCell b := fun h => by
  have h' : SemLoc.dma (dmaQ d) = SemLoc.reg barS := congrArg Prod.snd h
  cases h'

/-- Over a device's cells: its barrier, and the transfers'. -/
theorem over_cells (X : KC → sProp 𝕄) : bigSep Finset.univ X = iprop(X (.inl ()) ∗ bigSep Finset.univ fun d : Fin 2 × T => X (.inr d)) := by
  rw [bigSep_univ_sum, show (Finset.univ : Finset Unit) = {()} from rfl, bigSep_singleton]; rfl

theorem kcell_injective : Function.Injective (kcell : Dev nD × KC → GSem nD τ sig) := by
  rintro ⟨c, k | d⟩ ⟨c', k' | d'⟩ h
  · rw [bar_inj (a := c) (b := c') h]
  · exact nomatch (congrArg Prod.snd h : SemLoc.reg barS = SemLoc.dma (dmaQ d'))
  · exact nomatch (congrArg Prod.snd h : SemLoc.dma (dmaQ d) = SemLoc.reg barS)
  · obtain ⟨h1, h2⟩ := dma_inj (a := c) (b := c') (d := d) (e := d') h
    rw [h1, h2]
def ringCells : Finset (GSem nD τ sig) := Finset.univ.map ⟨kcell, kcell_injective⟩

/-- A device's own cells' tokens: its barrier's two duties, and one duty of each send and receive cell. -/
abbrev KT : Type := Fin 2 ⊕ (Fin 2 × T)
def tokOf (ck : Dev nD × KT) : GSem nD τ sig × ℕ × Fin 2 := match ck.2 with
  | .inl j => (barCell ck.1, 0, j)
  | .inr d => (dmaCell ck.1 d, 0, 0)
theorem tokOf_injective : Function.Injective (tokOf : Dev nD × KT → GSem nD τ sig × ℕ × Fin 2) := by
  rintro ⟨c, j | d⟩ ⟨c', j' | d'⟩ h
  · have hj : j = j' := congrArg (fun x : GSem nD τ sig × ℕ × Fin 2 => x.2.2) h
    rw [bar_inj (a := c) (b := c') (congrArg Prod.fst h), hj]
  · exact nomatch (congrArg (fun x : GSem nD τ sig × ℕ × Fin 2 => x.1.2) h : SemLoc.reg barS = SemLoc.dma (dmaQ d'))
  · exact nomatch (congrArg (fun x : GSem nD τ sig × ℕ × Fin 2 => x.1.2) h : SemLoc.dma (dmaQ d) = SemLoc.reg barS)
  · obtain ⟨h1, h2⟩ := dma_inj (a := c) (b := c') (d := d) (e := d') (congrArg Prod.fst h)
    rw [h1, h2]
def ringToks : Finset (GSem nD τ sig × ℕ × Fin 2) := Finset.univ.map ⟨tokOf, tokOf_injective⟩

def u₀ : UU :=
  (initOf (Pipeline.cells cfgs cellOf_inj) (Pipeline.launchToks cfgs cellOf_inj), initOf ringCells ringToks)

/-- The tokens of device `c`'s own cells. -/
def toks (c : Dev nD) : sProp 𝕄 :=
  iprop((dutyTok ER (barCell c) 0 0 ∗ dutyTok ER (barCell c) 0 1) ∗ bigSep Finset.univ fun d : Fin 2 × T => dutyTok ER (dmaCell c d) 0 0)

/-- What the launch deals device `c`; -/
def G (c : Dev nD) : sProp 𝕄 :=
  iprop((bigSep Finset.univ fun k : KC => roundState ER (rd m) (kcell (c, k)) 0)
    ∗ ((bigSep Finset.univ fun k : KC => atPos ER (kcell (c, k)) 0 ∅ 0) ∗ bigSep Finset.univ fun k : KC => reached ER (kcell (c, k)) 0) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : KC => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_two]
    rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores at zero are those of its cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KC => semVal (kcell (c, k)) 0 : sProp 𝕄) := by
  unfold Pipeline.ownSems0
  rw [unscopedSems0_eq, over_cells]
  iintro ⟨HD, HB⟩
  isplitl [HB]; · iexact HB
  iexact HD

/-- The cells' invariants of one device, opened. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k : KC => reached ER (kcell (c, k)) 0) ∗ (bigSep Finset.univ fun k : KC => atPos ER (kcell (c, k)) 0 ∅ 0) ∗ toks c) := by
  unfold G
  iintro ⟨Hos, Hus, Hst, ⟨Hat, Hr⟩, Htok⟩
  ihave Hv := (sems0_eq (F := F) c) $$ [Hos Hus]
  · isplitl [Hos] <;> iassumption
  imod (show iprop((bigSep Finset.univ fun k : KC => semVal (kcell (c, k)) 0) ∗ bigSep Finset.univ fun k : KC => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-- What every device knows, the levels left out. -/
def records : sProp 𝕄 :=
  iprop((bigSep Finset.univ fun ck : Dev nD × KC => iprop(∃ κ : ℕ, cellInv ER (rd m) κ (kcell ck)))
    ∗ bigSep Finset.univ fun ck : Dev nD × KC => reached ER (kcell ck) 0)
instance records_persistent : BI.Persistent (records m) := by unfold records; infer_instance

/-- The tokens device `c` pays with. -/
def payToks (c : Dev nD) : sProp 𝕄 :=
  iprop((dutyTok ER (barCell (src 0 c)) 0 0 ∗ dutyTok ER (barCell (src 1 c)) 0 1)
    ∗ (bigSep Finset.univ fun t : T => dutyTok ER (dmaCell c (0, t)) 0 0) ∗ bigSep Finset.univ fun t : T => dutyTok ER (dmaCell (dst t.1 c) (1, t)) 0 0)

/-- A transfer at the device that sends it, a transfer at the device it lands on. -/
def sentE : Dev nD × T ≃ Dev nD × T where
  toFun ct := (dst ct.2.1 ct.1, ct.2)
  invFun ct := (src ct.2.1 ct.1, ct.2)
  left_inv _ := Prod.ext (src_dst _ _) rfl
  right_inv _ := Prod.ext (dst_src _ _) rfl

/-- The tokens dealt to the devices that pay with them. -/
theorem toks_around : (bigSep Finset.univ fun c : Dev nD => (toks c : sProp 𝕄)) ⊢ bigSep Finset.univ fun c : Dev nD => payToks c := by
  have hr : (bigSep Finset.univ fun c : Dev nD => bigSep Finset.univ fun t : T => (dutyTok ER (dmaCell c (1, t)) 0 0 : sProp 𝕄))
      = bigSep Finset.univ fun c : Dev nD => bigSep Finset.univ fun t : T => dutyTok ER (dmaCell (dst t.1 c) (1, t)) 0 0 := by
    rw [← bigSep_univ_prod (fun ct : Dev nD × T => (dutyTok ER (dmaCell ct.1 (1, ct.2)) 0 0 : sProp 𝕄)),
      bigSep_univ_equiv sentE (fun ct : Dev nD × T => (dutyTok ER (dmaCell ct.1 (1, ct.2)) 0 0 : sProp 𝕄)), bigSep_univ_prod]
    rfl
  unfold toks payToks
  simp only [over_roles, bigSep_sep']
  rw [bigSep_univ_equiv (hop 0).symm (fun c : Dev nD => (dutyTok ER (barCell c) 0 0 : sProp 𝕄)),
    bigSep_univ_equiv (hop 1).symm (fun c : Dev nD => (dutyTok ER (barCell c) 0 1 : sProp 𝕄)), hr]
  exact BI.Entails.refl _

/-- What a device starts from, the levels and the credits left out. -/
def G' (c : Dev nD) : sProp 𝕄 :=
  iprop(records m ∗ (bigSep Finset.univ fun k : KC => atPos ER (kcell (c, k)) 0 ∅ 0) ∗ payToks c)

theorem regroup :
    (bigSep Finset.univ fun c : Dev nD => iprop((bigSep Finset.univ fun k => iprop(∃ κ : ℕ, cellInv ER (rd m) κ (kcell (c, k))))
          ∗ (bigSep Finset.univ fun k : KC => reached ER (kcell (c, k)) 0) ∗ (bigSep Finset.univ fun k : KC => atPos ER (kcell (c, k)) 0 ∅ 0) ∗ toks c) : sProp 𝕄)
      ⊢ bigSep Finset.univ (G' m) := by
  simp only [bigSep_sep']
  rw [← bigSep_univ_prod (fun ck : Dev nD × KC => iprop(∃ κ : ℕ, cellInv ER (rd m) κ (kcell ck))),
    ← bigSep_univ_prod (fun ck : Dev nD × KC => (reached ER (kcell ck) 0 : sProp 𝕄))]
  iintro ⟨#HI, #HR, Hat, Htok⟩
  ihave Htk := (toks_around (F := F)) $$ Htok
  iapply (bigSep_with_persistent (R := records m) fun c _ => show iprop(records m ∗ ((bigSep Finset.univ fun k : KC => atPos ER (kcell (c, k)) 0 ∅ 0) ∗ payToks c)) ⊢ G' m c from BI.Entails.refl _)
  isplitr
  · unfold records; isplitl; · iexact HI
    iexact HR
  · iapply (Entails.of_eq (bigSep_sep' Finset.univ (fun c : Dev nD => bigSep Finset.univ fun k : KC => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What device `d`'s transfers owe a receive cell of device `c`. -/
theorem owedL_recv (d c : Dev nD) (t : T) : ∀ ts : List T, owedL d ts (dmaCell c (1, t)) () = if d = src t.1 c then N * ts.count t else 0
  | [] => by simp only [List.count_nil, Nat.mul_zero, ite_self]; rfl
  | t' :: ts => by
    unfold owedL
    rw [Pi.add_apply, Finsupp.add_apply, owedL_recv d c t ts, tallyAt_apply]
    by_cases ht : t' = t
    · subst ht
      rw [List.count_cons_self]
      by_cases hd : d = src t'.1 c
      · subst hd
        rw [if_pos rfl, if_pos rfl, dst_src, if_pos ⟨rfl, rfl⟩, Nat.mul_add, Nat.mul_one]
      · rw [if_neg hd, if_neg hd, if_neg (fun h' => hd (by rw [(dma_inj h'.1).1, src_dst]))]
    · rw [List.count_cons_of_ne ht,
        if_neg (show ¬(dmaCell c (1, t) = dmaCell (dst t'.1 d) (1, t') ∧ () = ()) from fun h => ht (congrArg Prod.snd (dma_inj h.1).2).symm), Nat.add_zero]
theorem owedL_bar (d c : Dev nD) : ∀ ts : List T, owedL d ts (barCell c) () = 0
  | [] => rfl
  | t' :: ts => by
    unfold owedL
    rw [Pi.add_apply, Finsupp.add_apply, owedL_bar d c ts, tallyAt_apply, if_neg (fun h => dma_ne_bar h.1.symm)]

theorem tally_bar (s : Fin 2) (d c : Dev nD) : (tallyAt (barCell (src s d)) () 1 : CellTallies nD τ sig Unit) (barCell c) () = if d = dst s c then 1 else 0 := by
  rw [tallyAt_apply]
  by_cases h : d = dst s c
  · subst h; rw [src_dst, if_pos ⟨rfl, rfl⟩, if_pos rfl]
  · rw [if_neg (fun h' => h (by rw [bar_inj h'.1, dst_src])), if_neg h]

theorem owed_recv (d c : Dev nD) (t : T) (ha : act t = true) : O₀ d (dmaCell c (1, t)) () = if d = src t.1 c then N else 0 := by
  unfold O₀ O₁
  rw [Pi.add_apply, Finsupp.add_apply, Pi.add_apply, Finsupp.add_apply, owedL_recv, sends_count, if_pos ha, Nat.mul_one,
    tallyAt_apply, tallyAt_apply, if_neg (show ¬(dmaCell c (1, t) = barCell (src 1 d) ∧ () = ()) from fun h => dma_ne_bar h.1),
    if_neg (show ¬(dmaCell c (1, t) = barCell (src 0 d) ∧ () = ()) from fun h => dma_ne_bar h.1), Nat.add_zero]
theorem owed_bar (d c : Dev nD) : O₀ d (barCell c) () = (if d = dst 1 c then 1 else 0) + (if d = dst 0 c then 1 else 0) := by
  unfold O₀ O₁
  rw [Pi.add_apply, Finsupp.add_apply, Pi.add_apply, Finsupp.add_apply, owedL_bar, tally_bar, tally_bar, Nat.zero_add]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (dst 1 c) fun _ => 1, Finset.sum_ite_eq' Finset.univ (dst 0 c) fun _ => 1, if_pos (Finset.mem_univ _), if_pos (Finset.mem_univ _)]
theorem launch_recv (c : Dev nD) (t : T) (ha : act t = true) :
    tallyOn (dmaCell c (1, t)) (launchCredit (Pipeline.owing O₀) 0 (dmaCell c (1, t))) = (tallyAt (dmaCell c (1, t)) () N : CellTallies nD τ sig Unit) := by
  unfold tallyAt; refine congrArg _ (Finsupp.ext fun u => ?_); cases u
  rw [Pipeline.launchCredit_owing, Finsupp.single_eq_same, Finset.sum_congr rfl fun d _ => owed_recv d c t ha,
    Finset.sum_ite_eq' Finset.univ (src t.1 c) fun _ => N, if_pos (Finset.mem_univ _)]

/-- The receive semaphores among all. -/
def recvE : T ↪ SemLoc sig := ⟨fun t => .dma (dmaQ (1, t)), fun a b h => congrArg Prod.snd (dmaQ_injective (SemLoc.dma.inj h))⟩

theorem creds (c : Dev nD) :
    (Pipeline.launchCred O₀ c : sProp 𝕄)
      ⊢ iprop(cred (tallyAt (barCell c) () 2) ∗ bigSep Finset.univ fun t : T => if act t then cred (tallyAt (dmaCell c (1, t)) () N) else iprop(emp)) := by
  unfold Pipeline.launchCred
  rw [bigSep_univ_at _ (SemLoc.reg barS), launch_bar]
  refine sep_mono_right ?_
  have hsub : Finset.univ.map recvE ⊆ Finset.univ.erase (SemLoc.reg barS : SemLoc sig) := fun x hx => by
    obtain ⟨t, -, ht⟩ := Finset.mem_map.mp hx
    refine Finset.mem_erase.mpr ⟨fun h => ?_, Finset.mem_univ _⟩
    rw [← ht] at h
    cases h
  refine (bigSep_subset hsub).trans ?_
  rw [bigSep_map]
  refine bigSep_mono fun t _ => ?_
  by_cases ha : act t = true
  · rw [if_pos ha, ← launch_recv c t ha]; exact BI.Entails.refl _
  · rw [if_neg ha]
    exact (show (_ : sProp 𝕄) ⊢ iprop(emp) from by iintro -; iempintro)

/-! ## The side conditions of the launch -/

variable (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' records payToks
  rw [over_cells]
  iintro ⟨-, Hlev, Hcr, -, ⟨HI, HR⟩, ⟨HaB, HaD⟩, ⟨HtB0, HtB1⟩, HtS, HtR⟩
  ihave Hc := (creds (F := F) c) $$ Hcr
  icases Hc with ⟨HcB, HcR⟩
  imodintro
  unfold start known bars parts
  isplitl
  · isplitl [HI HR Hlev]
    · isplitl [HI]; · iexact HI
      isplitl [HR] <;> iassumption
    isplitl [HcB HaB HtB0 HtB1]
    · isplitl [HcB]; · iexact HcB
      isplitl [HaB]; · iexact HaB
      isplitl [HtB0] <;> iassumption
    isplitl [HaD]; · iexact HaD
    isplitl [HtS]; · iexact HtS
    isplitl [HtR] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl, scopedRest0_eq]
  iintro ⟨Hs, -, Hr⟩
  isplitl [Hs]; · iexact Hs
  unfold scratch; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scratch c ∗ quiet c) from rfl, scopedRest0_eq, unscopedSems0_eq]
  unfold scratch quiet Pipeline.ownSems0
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with the semaphores at zero, every execution of the eight devices ends, with
    every array at the computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand array ends holding what it held. -/
theorem finalA_in (c : Dev nD) (w : Fin cfg0.W) (hw : (cfg0.win w).isOut = false) :
    finalA m ρ c w = m ((cfg0.win w).arr.view.loc (c : Thread nD τ)) :=
  (dats (F := F) m ρ 0 c).arrAt_in w hw _

/-- The result array's one block is what the body left. -/
theorem finalA_out (c : Dev nD) : (win0_4.blk (0 : Fin 1)).view.read (Elt F) (finalA m ρ c (4 : Fin 5)) = outC m c := by
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact View.read_write_univ _ _

end Cert.RingProof

end
-- ==== Proof.Frames.lean ====
/-
# The frames

Every execution of each of the three programs ends, with its arguments as they were and every semaphore at zero. The two
kernels are one text, read at two instances of the float operations, and the run of that text is proved at every
instance.
-/
module

public import proofs.«01_k».proof.Defs
public import proofs.«01_k».proof.Proof.Launch
public import proofs.«01_k».proof.Proof.Gen.Kernel
public import proofs.«01_k».proof.Proof.Gen.ReferenceIdeal.Frame

@[expose] public section

noncomputable section

namespace Cert.Frames

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The kernel over the extended reals: the run of the mesh, its values dropped. -/
theorem kernel_ideal : Cert.quiescent_KernelIdeal := fun m ρ _ =>
  (θ_run Cert.KernelIdeal.defs _ _).mono (fun _ h => ⟨fun c =>
      ⟨(h.1 c 0).trans (RingProof.finalA_in m ρ c 0 rfl), (h.1 c 1).trans (RingProof.finalA_in m ρ c 1 rfl),
       (h.1 c 2).trans (RingProof.finalA_in m ρ c 2 rfl), (h.1 c 3).trans (RingProof.finalA_in m ρ c 3 rfl)⟩, h.2⟩)
    (RingProof.run_main (F := Ideal) m ρ)

/-- The two programs' tables of bodies are one, at every instance. -/
theorem defs₀_eq {F : FTy → Type} [FloatOps F] : Cert.Kernel.defs₀ (F := F) = Cert.KernelIdeal.defs₀ (F := F) := by
  refine congrArg Defs.onTc (funext fun p => funext fun a => ?_)
  match p, a with
  | 0, (t, s) => rfl

/-- So are the tables with the launch in them. -/
theorem defs_eq {F : FTy → Type} [FloatOps F] : Cert.Kernel.defs (F := F) = Cert.KernelIdeal.defs (F := F) :=
  congrArg (Pipeline.defs Cert.KernelIdeal.pcfgs) defs₀_eq

/-- The kernel on words: the same run. -/
theorem kernel : Cert.quiescent_Kernel := fun m ρ _ => by
  rw [defs_eq]
  exact (θ_run Cert.KernelIdeal.defs _ _).mono (fun _ h => ⟨fun c =>
      ⟨(h.1 c 0).trans (RingProof.finalA_in m ρ c 0 rfl), (h.1 c 1).trans (RingProof.finalA_in m ρ c 1 rfl),
       (h.1 c 2).trans (RingProof.finalA_in m ρ c 2 rfl), (h.1 c 3).trans (RingProof.finalA_in m ρ c 3 rfl)⟩, h.2⟩)
    (RingProof.run_main (F := Bits) m ρ)

/-- The reference over the extended reals. -/
theorem reference_ideal : Cert.quiescent_ReferenceIdeal := fun m ρ _ => Cert.ReferenceIdeal.Gen.frame m ρ

end Cert.Frames

end
-- ==== Proof.Block.lean ====
/-
# An entry of the product, over the extended reals

What the kernel stores and what the reference stores are, entry by entry, `silu` of the scaled sum of products: the
kernel multiplies by the logistic function, the reference divides by one plus the exponential of the negated argument.
-/
module

public import proofs.«01_k».proof.Proof.Out
public import proofs.«01_k».proof.Proof.Gen.ReferenceIdeal.Skeleton
public import Idealize.ShloMosaic.Lib.MatmulPlain
public import Idealize.ShloMosaic.Lib.ValueLayout
public import Idealize.ShloMosaic.PureOps.Ideal.Laws

@[expose] public section

noncomputable section

namespace Cert.Entry

open Idealize.ShloMosaic Idealize.ShloMosaic.ValueIdx

/-- `y · σ(y)`, with `σ` the logistic function. -/
def silu (y : EReal) : EReal := y * Ideal.logistic y

/-- The entry of a row `x` and a column `w`, of 4096 terms, scaled by `s`. -/
def entry (x w : Fin 4096 → EReal) (s : EReal) : EReal := silu ((∑ k, x k * w k) * s)

/-- The quotient of `y` by one plus the exponential of its negation is `y · σ(y)`, at the infinities too. -/
theorem div_eq_silu (y : EReal) : Ideal.div y (1 + Ideal.exp (0 - y)) = silu y := by
  have h : (1 + Ideal.exp (-y) : EReal) ≠ 0 := by
    induction y using EReal.rec with
    | bot => rw [EReal.neg_bot, Ideal.exp_top, EReal.add_top_of_ne_bot (show (1 : EReal) ≠ ⊥ from EReal.coe_ne_bot 1)]; exact EReal.top_ne_zero
    | top => simp
    | coe r =>
      rw [← EReal.coe_neg, Ideal.exp_coe]
      have := Real.exp_pos (-r)
      exact_mod_cast (by linarith : (1 + Real.exp (-r)) ≠ 0)
  rw [zero_sub, silu, Ideal.logistic, Ideal.div, Ideal.div, if_neg h, if_neg h, one_mul]

section Kernel
open Cert.KernelIdeal Cert.KernelIdeal.Gen

/-- An entry of the product of a device's own 512 rows; -/
theorem pay5_apply (s : EReal) (x : Vec Ideal S512x4096 .fp8e5m2) (w : Vec Ideal S4096x256 .fp8e5m2) (r : Fin 512) (j : Fin 256) :
    k0_pay5 (F := Ideal) s x w (ix2 r j) = entry (fun k => x (ix2 r k)) (fun k => w (ix2 k j)) s := by
  have h := Ideal.matmul_plain_apply (M := 512) (K := 4096) (N := 256) none (φ₁ := .fp8e5m2) (φ₂ := .fp8e5m2) x w (constant S512x256 .f32 0x00000000#32) r j
  have hz : (constant (F := Ideal) S512x256 .f32 0x00000000#32) (ix2 r j) = (0 : EReal) := Ideal.ofBits_zero_f32
  rw [hz, zero_add] at h
  exact congrArg (fun y : EReal => silu (y * s)) h

/-- an entry of the product of a received lane of 256 rows. -/
theorem pay6_apply (s : EReal) (x : Vec Ideal S1x256x4096 .fp8e5m2) (w : Vec Ideal S4096x256 .fp8e5m2) (r : Fin 256) (j : Fin 256) :
    k0_pay6 (F := Ideal) s x w (ix2 r j) = entry (fun k => shapeCast S256x4096 x shapeCasts_S1x256x4096_S256x4096 (ix2 r k)) (fun k => w (ix2 k j)) s := by
  have h := Ideal.matmul_plain_apply (M := 256) (K := 4096) (N := 256) none (φ₁ := .fp8e5m2) (φ₂ := .fp8e5m2) (shapeCast S256x4096 x shapeCasts_S1x256x4096_S256x4096) w (constant S256x256 .f32 0x00000000#32) r j
  have hz : (constant (F := Ideal) S256x256 .f32 0x00000000#32) (ix2 r j) = (0 : EReal) := Ideal.ofBits_zero_f32
  rw [hz, zero_add] at h
  exact congrArg (fun y : EReal => silu (y * s)) h

end Kernel

section Reference
open Cert.ReferenceIdeal Cert.ReferenceIdeal.Gen

/-- An array of one element has one index. -/
theorem one_idx (i i' : S1.Idx) : i = i' := funext fun a => Fin.ext (by
  fin_cases a
  have h : (i 0).val < 1 := (i 0).isLt
  have h' : (i' 0).val < 1 := (i' 0).isLt
  show (i 0).val = (i' 0).val
  omega)

/-- An entry of the reference. -/
theorem ref_apply (x : Vec Ideal S4096x4096 .fp8e5m2) (w : Vec Ideal S4096x2048 .fp8e5m2) (sx sw : Vec Ideal S1 .f32) (r : Fin 4096) (j : Fin 2048) (i : S1.Idx) :
    Cert.ReferenceIdeal.Gen.k0_pay1 (F := Ideal) x w sx sw (ix2 r j)
      = entry (fun k => x (ix2 r k)) (fun k => w (ix2 k j)) (sx i * sw i) := by
  have h := Ideal.matmul_plain_apply (M := 4096) (K := 4096) (N := 2048) (φ₁ := .f32) (φ₂ := .f32) none x w (constant S4096x2048 .f32 0x00000000#32) r j
  have hz : (constant (F := Ideal) S4096x2048 .f32 0x00000000#32) (ix2 r j) = (0 : EReal) := Ideal.ofBits_zero_f32
  rw [hz, zero_add] at h
  have hs : broadcastTo S4096x2048 (shapeCast S1x1 (mulf (F := Ideal) (φ := .f32) sx sw) shapeCasts_S1_S1x1) broadcasts_S1x1_S4096x2048 (ix2 r j)
      = (sx i * sw i : EReal) := by
    exact congrArg (fun i' : S1.Idx => (sx i' * sw i' : EReal)) (one_idx _ i)
  have h1 : (Scalar.ofBits (F := Ideal) .f32 0x3F800000#32 : EReal) = 1 := by
    show Ideal.ofBits .f32 0x3F800000#32 = 1
    simp [Ideal.ofBits, Ideal.ieee, -EReal.coe_mul]; norm_num
  have h0 : (Scalar.ofBits (F := Ideal) .f32 0x00000000#32 : EReal) = 0 := Ideal.ofBits_zero_f32
  unfold entry
  rw [← h, ← hs, ← div_eq_silu, ← h0, ← h1]
  rfl

end Reference

end Cert.Entry

end
-- ==== Proof.Value.lean ====
/-
# The equation

Row `i` of the whole of `x` is row `i mod 512` of device `i / 512`, so what device `c` stores in row `i` and column `j` of
its result is the reference's entry of row `i` and column `256 c + j`: device `c`'s result is block `c` of the reference's.
-/
module

public import proofs.«01_k».proof.Proof.Block
public import proofs.«01_k».proof.Proof.Launch
public import proofs.«01_k».proof.Proof.Gen.ReferenceIdeal.Value
public import Idealize.ShloMosaic.Lib.Layout

@[expose] public section

noncomputable section

namespace Cert.RingValue

open Cert.KernelIdeal Cert.KernelIdeal.Gen Cert.RingProof Cert.Entry
open Idealize.ShloMosaic Idealize.ShloMosaic.TcCoe Idealize.ShloMosaic.ValueIdx

variable (m : (ℓ : Loc nD τ sig) → Buf (Elt Ideal) ℓ)

/-! ## What is staged is the argument -/

theorem xstg_eq (c : Dev nD) : xstg m c = m ((c : Thread nD τ).loc main_arg0) :=
  Memref.read_access_unit_zero (Elt Ideal) main_arg0 (funext fun a => by fin_cases a <;> decide) (fun a => by fin_cases a <;> decide) _
theorem wstg_eq (c : Dev nD) : wstg m c = m ((c : Thread nD τ).loc main_arg1) :=
  Memref.read_access_unit_zero (Elt Ideal) main_arg1 (funext fun a => by fin_cases a <;> decide) (fun a => by fin_cases a <;> decide) _
theorem sxstg_eq (c : Dev nD) : sxstg m c = m ((c : Thread nD τ).loc main_arg2) :=
  Memref.read_access_unit_zero (Elt Ideal) main_arg2 (funext fun a => by fin_cases a; decide) (fun a => by fin_cases a; decide) _
theorem swstg_eq (c : Dev nD) : swstg m c = m ((c : Thread nD τ).loc main_arg3) :=
  Memref.read_access_unit_zero (Elt Ideal) main_arg3 (funext fun a => by fin_cases a; decide) (fun a => by fin_cases a; decide) _

/-- The result array is what the staged output held. -/
theorem result_eq (ρ : Dev nD → PrngReg) (c : Dev nD) : finalA m ρ c (4 : Fin 5) = outC m c :=
  (Memref.read_access_unit_zero (Elt Ideal) main_v1 (funext fun a => by fin_cases a <;> decide) (fun a => by fin_cases a <;> decide) _).symm.trans
    (finalA_out m ρ c)

/-! ## The arguments as parts of the whole arrays -/

variable (X : Vec Ideal ⟨2, ![4096, 4096]⟩ .fp8e5m2) (W : Vec Ideal ⟨2, ![4096, 2048]⟩ .fp8e5m2) (sx sw : Vec Ideal ⟨1, ![1]⟩ .f32)

/-- Every device holds its rows of `X`, its columns of `W`, and both scales. -/
def Agree : Prop := ∀ c : Dev nD,
  m ((c : Thread nD τ).loc main_arg0) = Layout.block ⟨2, ![512, 4096]⟩ ⟨2, ![4096, 4096]⟩ 0 8 c X
  ∧ m ((c : Thread nD τ).loc main_arg1) = Layout.block ⟨2, ![4096, 256]⟩ ⟨2, ![4096, 2048]⟩ 1 8 c W
  ∧ m ((c : Thread nD τ).loc main_arg2) = sx ∧ m ((c : Thread nD τ).loc main_arg3) = sw

/-- Column `j` of device `c` in the whole. -/
def col (c : Dev nD) (j : Fin 256) : Fin 2048 := ⟨256 * c.val + j.val, by have : c.val < 8 := c.isLt; omega⟩
/-- Row `r` of device `d` in the whole. -/
def row (d : Dev nD) (r : Fin 512) : Fin 4096 := ⟨512 * d.val + r.val, by have : d.val < 8 := d.isLt; omega⟩

variable {m X W sx sw}
variable (H : Agree m X W sx sw)
include H

/-- A device's staged rows are its rows of `X`; -/
theorem x_apply (d : Dev nD) (r : Fin 512) (k : Fin 4096) : xstg m d (ix2 r k) = X (ix2 (row d r) k) := by
  rw [xstg_eq, (H d).1, Layout.block_apply]
  refine congrArg X (funext fun a => Fin.ext ?_)
  rw [Layout.Tiles.idx_val]
  fin_cases a
  · show d.val * 512 + r.val = 512 * d.val + r.val
    omega
  · rfl

/-- its staged columns are its columns of `W`; -/
theorem w_apply (c : Dev nD) (k : Fin 4096) (j : Fin 256) : wstg m c (ix2 k j) = W (ix2 k (col c j)) := by
  rw [wstg_eq, (H c).2.1, Layout.block_apply]
  refine congrArg W (funext fun a => Fin.ext ?_)
  rw [Layout.Tiles.idx_val]
  fin_cases a
  · rfl
  · show c.val * 256 + j.val = 256 * c.val + j.val
    omega

/-- a lane of its rows is that half of them; -/
theorem lane_apply (d : Dev nD) (n : Fin 2) (r : Fin 256) (k : Fin 4096) :
    V m d n (ix2 r k) = X (ix2 (row d ⟨256 * n.val + r.val, by omega⟩) k) := by
  rw [← x_apply H]
  refine congrArg (xstg m d) (funext fun a => Fin.ext ?_)
  have hv : ∀ a, ((halfR n).emb (ix2 r k) a).val = (![256 * n.val, 0] : Fin 2 → ℕ) a + 1 * ((ix2 r k : S256x4096.Idx) a).val := fun a => rfl
  fin_cases a
  · refine (hv 0).trans ?_
    show 256 * n.val + 1 * r.val = 256 * n.val + r.val
    omega
  · refine (hv 1).trans ?_
    show 0 + 1 * k.val = k.val
    omega

/-- and its scale is the product of the two scales. -/
theorem sc_eq (c : Dev nD) (i : S1.Idx) : sc m c = (sx i * sw i : EReal) := by
  unfold sc
  rw [sxstg_eq, swstg_eq, (H c).2.2.1, (H c).2.2.2]
  exact congrArg (fun u : S1.Idx => (sx u * sw u : EReal)) (one_idx _ i)

/-- The entry of the whole product in row `i`, column `j` of device `c`'s result. -/
theorem outC_apply (c : Dev nD) (i : Fin 4096) (j : Fin 256) (u : S1.Idx) :
    outC m c (ix2 i j) = entry (fun k => X (ix2 i k)) (fun k => W (ix2 k (col c j))) (sx u * sw u) := by
  have hi := i.isLt
  unfold outC
  by_cases hd : rowDev (ix2 i j) = c
  · rw [if_pos hd]
    refine (pay5_apply (sc m c) (xstg m c) (wstg m c) ⟨i.val % 512, Nat.mod_lt _ (by decide)⟩ j).trans ?_
    have hr : row c ⟨i.val % 512, Nat.mod_lt _ (by decide)⟩ = i := by
      have h : i.val / 512 = c.val := congrArg Fin.val hd
      refine Fin.ext ?_
      show 512 * c.val + i.val % 512 = i.val
      omega
    simp only [x_apply H, w_apply H, sc_eq H c u, hr]
  · rw [if_neg hd]
    refine (pay6_apply (sc m c) (slab (V m (rowDev (ix2 i j)) (rowLane (ix2 i j)))) (wstg m c) ⟨i.val % 256, Nat.mod_lt _ (by decide)⟩ j).trans ?_
    have hr : row (rowDev (ix2 i j)) ⟨256 * (rowLane (ix2 i j)).val + i.val % 256, by have := (rowLane (ix2 i j)).isLt; omega⟩ = i := by
      refine Fin.ext ?_
      show 512 * (i.val / 512) + (256 * (i.val % 512 / 256) + i.val % 256) = i.val
      omega
    unfold slab
    simp only [shapeCast_shapeCast, shapeCast_self, lane_apply H, w_apply H, sc_eq H c u, hr]

/-- Device `c`'s result is block `c` of the reference's. -/
theorem outC_eq (c : Dev nD) :
    outC m c = Layout.block ⟨2, ![4096, 256]⟩ ⟨2, ![4096, 2048]⟩ 1 8 c (Cert.ReferenceIdeal.Value.G4 (F := Ideal) X W sx sw) := by
  funext i
  obtain ⟨r, j, rfl⟩ : ∃ r j, i = ix2 r j := ⟨i 0, i 1, eq_ix2 i⟩
  let u : S1.Idx := fun _ => ⟨0, by decide +revert⟩
  rw [outC_apply H c r j u, ← ref_apply X W sx sw r (col c j) u, Layout.block_apply]
  refine congrArg (Cert.ReferenceIdeal.Value.G4 (F := Ideal) X W sx sw) (funext fun a => Fin.ext ?_)
  rw [Layout.Tiles.idx_val]
  fin_cases a
  · rfl
  · show 256 * c.val + j.val = c.val * 256 + j.val
    omega

end Cert.RingValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem
open Cert.RingProof

/-- Over the extended reals: each device's result is its columns of the reference's. -/
theorem algebraic : Cert.algebraic_KernelIdeal_ReferenceIdeal := fun m g m' g' _ hagree => by
  refine ⟨_, ?_, (θ_run Cert.ReferenceIdeal.defs _ _).mono (fun _ h => h 0) (Cert.ReferenceIdeal.Value.run (F := Ideal) m' g')⟩
  · refine (θ_run Cert.KernelIdeal.defs _ _).mono (fun _ h c =>
        ⟨(h.1 c 4).trans ?_, (h.1 c 0).trans (finalA_in m g c 0 rfl), (h.1 c 1).trans (finalA_in m g c 1 rfl),
         (h.1 c 2).trans (finalA_in m g c 2 rfl), (h.1 c 3).trans (finalA_in m g c 3 rfl)⟩)
      (run_main (F := Ideal) m g)
    exact (Cert.RingValue.result_eq m g c).trans (Cert.RingValue.outC_eq hagree c)

theorem claim : Cert.Claim := ⟨Cert.Kernel.Gen.facts, Cert.KernelIdeal.Gen.facts, Cert.ReferenceIdeal.Gen.facts,
  Frames.kernel, Frames.kernel_ideal, Frames.reference_ideal, trivial, algebraic⟩

end Cert.Proof

end
